-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x7168 : Shape := ⟨3, ![8, 4096, 7168]⟩
abbrev S56x8x4096 : Shape := ⟨3, ![56, 8, 4096]⟩
abbrev S7168x5120 : Shape := ⟨2, ![7168, 5120]⟩
abbrev S56x40 : Shape := ⟨2, ![56, 40]⟩
abbrev S8x4096x5120 : Shape := ⟨3, ![8, 4096, 5120]⟩
abbrev S7168x512 : Shape := ⟨2, ![7168, 512]⟩
abbrev S1x1 : Shape := ⟨2, ![1, 1]⟩
abbrev S128x128 : Shape := ⟨2, ![128, 128]⟩
abbrev S56x8x512 : Shape := ⟨3, ![56, 8, 512]⟩
abbrev S1x512x7168 : Shape := ⟨3, ![1, 512, 7168]⟩
abbrev S1x512x512 : Shape := ⟨3, ![1, 512, 512]⟩
abbrev S512x7168 : Shape := ⟨2, ![512, 7168]⟩
abbrev S56x1x512 : Shape := ⟨3, ![56, 1, 512]⟩
abbrev S56x512 : Shape := ⟨2, ![56, 512]⟩
abbrev S512x56 : Shape := ⟨2, ![512, 56]⟩
abbrev S512x1 : Shape := ⟨2, ![512, 1]⟩
abbrev S512x128 : Shape := ⟨2, ![512, 128]⟩
abbrev S1x512x128 : Shape := ⟨3, ![1, 512, 128]⟩
abbrev S512x512 : Shape := ⟨2, ![512, 512]⟩

abbrev nBuf : Space → Nat
  | .hbm => 7
  | .vmem => 15
  | .smem => 1
  | _ => 0

abbrev bufTy : (tb : Table) → Fin (tcTables nBuf tb) → BufTy
  | .hbm, ⟨0, _⟩ => ⟨S8x4096x7168, .fp8e4m3⟩
  | .hbm, ⟨1, _⟩ => ⟨S56x8x4096, .f32⟩
  | .hbm, ⟨2, _⟩ => ⟨S7168x5120, .fp8e4m3⟩
  | .hbm, ⟨3, _⟩ => ⟨S56x40, .f32⟩
  | .hbm, ⟨4, _⟩ => ⟨S8x4096x5120, .bf16⟩
  | .hbm, ⟨5, _⟩ => ⟨S7168x5120, .bf16⟩
  | .hbm, ⟨6, _⟩ => ⟨S8x4096x5120, .bf16⟩
  | .local _ .vmem, ⟨0, _⟩ => ⟨S7168x512, .fp8e4m3⟩
  | .local _ .vmem, ⟨1, _⟩ => ⟨S7168x512, .fp8e4m3⟩
  | .local _ .vmem, ⟨2, _⟩ => ⟨S7168x512, .bf16⟩
  | .local _ .vmem, ⟨3, _⟩ => ⟨S7168x512, .bf16⟩
  | .local _ .vmem, ⟨4, _⟩ => ⟨S56x8x512, .f32⟩
  | .local _ .vmem, ⟨5, _⟩ => ⟨S56x8x512, .f32⟩
  | .local _ .vmem, ⟨6, _⟩ => ⟨S1x512x7168, .fp8e4m3⟩
  | .local _ .vmem, ⟨7, _⟩ => ⟨S1x512x7168, .fp8e4m3⟩
  | .local _ .vmem, ⟨8, _⟩ => ⟨S7168x512, .bf16⟩
  | .local _ .vmem, ⟨9, _⟩ => ⟨S7168x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S512x7168, .bf16⟩
  | .local _ .smem, ⟨0, _⟩ => ⟨S56x40, .f32⟩
  | _, _ => ⟨S8x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def k0_off1 (i : grid0.Coords) (c0_i32 : BitVec 32) : Fin 2 → Nat :=
  let c0 : Index := 0#32
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  ![0, v2.toNat]
def k0_off2 (i : grid0.Coords) (c0_i32_20 : BitVec 32) : Fin 2 → Nat :=
  let c1 : Index := 1#32
  let arg0 : BitVec 32 := BitVec.ofNat 32 (i 0).val
  let c4_i32_19 : BitVec 32 := 4#32
  let v40 : BitVec 32 := Scalar.muli arg0 c4_i32_19
  let v41 : BitVec 32 := Scalar.addi v40 c0_i32_20
  let v42 : Index := Scalar.indexCast v41
  ![1, v42.toNat]
def k0_off3 (i : grid0.Coords) (c0_i32_47 : BitVec 32) : Fin 2 → Nat :=
  let c2 : Index := 2#32
  let arg0 : BitVec 32 := BitVec.ofNat 32 (i 0).val
  let c4_i32_46 : BitVec 32 := 4#32
  let v80 : BitVec 32 := Scalar.muli arg0 c4_i32_46
  let v81 : BitVec 32 := Scalar.addi v80 c0_i32_47
  let v82 : Index := Scalar.indexCast v81
  ![2, v82.toNat]
def k0_off4 (i : grid0.Coords) (c0_i32_74 : BitVec 32) : Fin 2 → Nat :=
  let c3 : Index := 3#32
  let arg0 : BitVec 32 := BitVec.ofNat 32 (i 0).val
  let c4_i32_73 : BitVec 32 := 4#32
  let v120 : BitVec 32 := Scalar.muli arg0 c4_i32_73
  let v121 : BitVec 32 := Scalar.addi v120 c0_i32_74
  let v122 : Index := Scalar.indexCast v121
  ![3, v122.toNat]
def k0_off5 (i : grid0.Coords) (c0_i32_101 : BitVec 32) : Fin 2 → Nat :=
  let c4 : Index := 4#32
  let arg0 : BitVec 32 := BitVec.ofNat 32 (i 0).val
  let c4_i32_100 : BitVec 32 := 4#32
  let v160 : BitVec 32 := Scalar.muli arg0 c4_i32_100
  let v161 : BitVec 32 := Scalar.addi v160 c0_i32_101
  let v162 : Index := Scalar.indexCast v161
  ![4, v162.toNat]
def k0_off6 (i : grid0.Coords) (c0_i32_127 : BitVec 32) : Fin 2 → Nat :=
  let c5 : Index := 5#32
  let arg0 : BitVec 32 := BitVec.ofNat 32 (i 0).val
  let c4_i32_126 : BitVec 32 := 4#32
  let v200 : BitVec 32 := Scalar.muli arg0 c4_i32_126
  let v201 : BitVec 32 := Scalar.addi v200 c0_i32_127
  let v202 : Index := Scalar.indexCast v201
  ![5, v202.toNat]
def k0_off7 (i : grid0.Coords) (c0_i32_153 : BitVec 32) : Fin 2 → Nat :=
  let c6 : Index := 6#32
  let arg0 : BitVec 32 := BitVec.ofNat 32 (i 0).val
  let c4_i32_152 : BitVec 32 := 4#32
  let v240 : BitVec 32 := Scalar.muli arg0 c4_i32_152
  let v241 : BitVec 32 := Scalar.addi v240 c0_i32_153
  let v242 : Index := Scalar.indexCast v241
  ![6, v242.toNat]
def k0_off8 (i : grid0.Coords) (c0_i32_179 : BitVec 32) : Fin 2 → Nat :=
  let c7 : Index := 7#32
  let arg0 : BitVec 32 := BitVec.ofNat 32 (i 0).val
  let c4_i32_178 : BitVec 32 := 4#32
  let v280 : BitVec 32 := Scalar.muli arg0 c4_i32_178
  let v281 : BitVec 32 := Scalar.addi v280 c0_i32_179
  let v282 : Index := Scalar.indexCast v281
  ![7, v282.toNat]
def k0_off9 (i : grid0.Coords) (c0_i32_205 : BitVec 32) : Fin 2 → Nat :=
  let c8 : Index := 8#32
  let arg0 : BitVec 32 := BitVec.ofNat 32 (i 0).val
  let c4_i32_204 : BitVec 32 := 4#32
  let v320 : BitVec 32 := Scalar.muli arg0 c4_i32_204
  let v321 : BitVec 32 := Scalar.addi v320 c0_i32_205
  let v322 : Index := Scalar.indexCast v321
  ![8, v322.toNat]
def k0_off10 (i : grid0.Coords) (c0_i32_231 : BitVec 32) : Fin 2 → Nat :=
  let c9 : Index := 9#32
  let arg0 : BitVec 32 := BitVec.ofNat 32 (i 0).val
  let c4_i32_230 : BitVec 32 := 4#32
  let v360 : BitVec 32 := Scalar.muli arg0 c4_i32_230
  let v361 : BitVec 32 := Scalar.addi v360 c0_i32_231
  let v362 : Index := Scalar.indexCast v361
  ![9, v362.toNat]
def k0_off11 (i : grid0.Coords) (c0_i32_257 : BitVec 32) : Fin 2 → Nat :=
  let c10 : Index := 10#32
  let arg0 : BitVec 32 := BitVec.ofNat 32 (i 0).val
  let c4_i32_256 : BitVec 32 := 4#32
  let v400 : BitVec 32 := Scalar.muli arg0 c4_i32_256
  let v401 : BitVec 32 := Scalar.addi v400 c0_i32_257
  let v402 : Index := Scalar.indexCast v401
  ![10, v402.toNat]
def k0_off12 (i : grid0.Coords) (c0_i32_283 : BitVec 32) : Fin 2 → Nat :=
  let c11 : Index := 11#32
  let arg0 : BitVec 32 := BitVec.ofNat 32 (i 0).val
  let c4_i32_282 : BitVec 32 := 4#32
  let v440 : BitVec 32 := Scalar.muli arg0 c4_i32_282
  let v441 : BitVec 32 := Scalar.addi v440 c0_i32_283
  let v442 : Index := Scalar.indexCast v441
  ![11, v442.toNat]
def k0_off13 (i : grid0.Coords) (c0_i32_309 : BitVec 32) : Fin 2 → Nat :=
  let c12 : Index := 12#32
  let arg0 : BitVec 32 := BitVec.ofNat 32 (i 0).val
  let c4_i32_308 : BitVec 32 := 4#32
  let v480 : BitVec 32 := Scalar.muli arg0 c4_i32_308
  let v481 : BitVec 32 := Scalar.addi v480 c0_i32_309
  let v482 : Index := Scalar.indexCast v481
  ![12, v482.toNat]
def k0_off14 (i : grid0.Coords) (c0_i32_335 : BitVec 32) : Fin 2 → Nat :=
  let c13 : Index := 13#32
  let arg0 : BitVec 32 := BitVec.ofNat 32 (i 0).val
  let c4_i32_334 : BitVec 32 := 4#32
  let v520 : BitVec 32 := Scalar.muli arg0 c4_i32_334
  let v521 : BitVec 32 := Scalar.addi v520 c0_i32_335
  let v522 : Index := Scalar.indexCast v521
  ![13, v522.toNat]
def k0_off15 (i : grid0.Coords) (c0_i32_361 : BitVec 32) : Fin 2 → Nat :=
  let c14 : Index := 14#32
  let arg0 : BitVec 32 := BitVec.ofNat 32 (i 0).val
  let c4_i32_360 : BitVec 32 := 4#32
  let v560 : BitVec 32 := Scalar.muli arg0 c4_i32_360
  let v561 : BitVec 32 := Scalar.addi v560 c0_i32_361
  let v562 : Index := Scalar.indexCast v561
  ![14, v562.toNat]
def k0_off16 (i : grid0.Coords) (c0_i32_387 : BitVec 32) : Fin 2 → Nat :=
  let c15 : Index := 15#32
  let arg0 : BitVec 32 := BitVec.ofNat 32 (i 0).val
  let c4_i32_386 : BitVec 32 := 4#32
  let v600 : BitVec 32 := Scalar.muli arg0 c4_i32_386
  let v601 : BitVec 32 := Scalar.addi v600 c0_i32_387
  let v602 : Index := Scalar.indexCast v601
  ![15, v602.toNat]
def k0_off17 (i : grid0.Coords) (c0_i32_413 : BitVec 32) : Fin 2 → Nat :=
  let c16 : Index := 16#32
  let arg0 : BitVec 32 := BitVec.ofNat 32 (i 0).val
  let c4_i32_412 : BitVec 32 := 4#32
  let v640 : BitVec 32 := Scalar.muli arg0 c4_i32_412
  let v641 : BitVec 32 := Scalar.addi v640 c0_i32_413
  let v642 : Index := Scalar.indexCast v641
  ![16, v642.toNat]
def k0_off18 (i : grid0.Coords) (c0_i32_439 : BitVec 32) : Fin 2 → Nat :=
  let c17 : Index := 17#32
  let arg0 : BitVec 32 := BitVec.ofNat 32 (i 0).val
  let c4_i32_438 : BitVec 32 := 4#32
  let v680 : BitVec 32 := Scalar.muli arg0 c4_i32_438
  let v681 : BitVec 32 := Scalar.addi v680 c0_i32_439
  let v682 : Index := Scalar.indexCast v681
  ![17, v682.toNat]
def k0_off19 (i : grid0.Coords) (c0_i32_465 : BitVec 32) : Fin 2 → Nat :=
  let c18 : Index := 18#32
  let arg0 : BitVec 32 := BitVec.ofNat 32 (i 0).val
  let c4_i32_464 : BitVec 32 := 4#32
  let v720 : BitVec 32 := Scalar.muli arg0 c4_i32_464
  let v721 : BitVec 32 := Scalar.addi v720 c0_i32_465
  let v722 : Index := Scalar.indexCast v721
  ![18, v722.toNat]
def k0_off20 (i : grid0.Coords) (c0_i32_491 : BitVec 32) : Fin 2 → Nat :=
  let c19 : Index := 19#32
  let arg0 : BitVec 32 := BitVec.ofNat 32 (i 0).val
  let c4_i32_490 : BitVec 32 := 4#32
  let v760 : BitVec 32 := Scalar.muli arg0 c4_i32_490
  let v761 : BitVec 32 := Scalar.addi v760 c0_i32_491
  let v762 : Index := Scalar.indexCast v761
  ![19, v762.toNat]
def k0_off21 (i : grid0.Coords) (c0_i32_517 : BitVec 32) : Fin 2 → Nat :=
  let c20 : Index := 20#32
  let arg0 : BitVec 32 := BitVec.ofNat 32 (i 0).val
  let c4_i32_516 : BitVec 32 := 4#32
  let v800 : BitVec 32 := Scalar.muli arg0 c4_i32_516
  let v801 : BitVec 32 := Scalar.addi v800 c0_i32_517
  let v802 : Index := Scalar.indexCast v801
  ![20, v802.toNat]
def k0_off22 (i : grid0.Coords) (c0_i32_543 : BitVec 32) : Fin 2 → Nat :=
  let c21 : Index := 21#32
  let arg0 : BitVec 32 := BitVec.ofNat 32 (i 0).val
  let c4_i32_542 : BitVec 32 := 4#32
  let v840 : BitVec 32 := Scalar.muli arg0 c4_i32_542
  let v841 : BitVec 32 := Scalar.addi v840 c0_i32_543
  let v842 : Index := Scalar.indexCast v841
  ![21, v842.toNat]
def k0_off23 (i : grid0.Coords) (c0_i32_569 : BitVec 32) : Fin 2 → Nat :=
  let c22 : Index := 22#32
  let arg0 : BitVec 32 := BitVec.ofNat 32 (i 0).val
  let c4_i32_568 : BitVec 32 := 4#32
  let v880 : BitVec 32 := Scalar.muli arg0 c4_i32_568
  let v881 : BitVec 32 := Scalar.addi v880 c0_i32_569
  let v882 : Index := Scalar.indexCast v881
  ![22, v882.toNat]
def k0_off24 (i : grid0.Coords) (c0_i32_595 : BitVec 32) : Fin 2 → Nat :=
  let c23 : Index := 23#32
  let arg0 : BitVec 32 := BitVec.ofNat 32 (i 0).val
  let c4_i32_594 : BitVec 32 := 4#32
  let v920 : BitVec 32 := Scalar.muli arg0 c4_i32_594
  let v921 : BitVec 32 := Scalar.addi v920 c0_i32_595
  let v922 : Index := Scalar.indexCast v921
  ![23, v922.toNat]
def k0_off25 (i : grid0.Coords) (c0_i32_621 : BitVec 32) : Fin 2 → Nat :=
  let c24 : Index := 24#32
  let arg0 : BitVec 32 := BitVec.ofNat 32 (i 0).val
  let c4_i32_620 : BitVec 32 := 4#32
  let v960 : BitVec 32 := Scalar.muli arg0 c4_i32_620
  let v961 : BitVec 32 := Scalar.addi v960 c0_i32_621
  let v962 : Index := Scalar.indexCast v961
  ![24, v962.toNat]
def k0_off26 (i : grid0.Coords) (c0_i32_647 : BitVec 32) : Fin 2 → Nat :=
  let c25 : Index := 25#32
  let arg0 : BitVec 32 := BitVec.ofNat 32 (i 0).val
  let c4_i32_646 : BitVec 32 := 4#32
  let v1000 : BitVec 32 := Scalar.muli arg0 c4_i32_646
  let v1001 : BitVec 32 := Scalar.addi v1000 c0_i32_647
  let v1002 : Index := Scalar.indexCast v1001
  ![25, v1002.toNat]
def k0_off27 (i : grid0.Coords) (c0_i32_673 : BitVec 32) : Fin 2 → Nat :=
  let c26 : Index := 26#32
  let arg0 : BitVec 32 := BitVec.ofNat 32 (i 0).val
  let c4_i32_672 : BitVec 32 := 4#32
  let v1040 : BitVec 32 := Scalar.muli arg0 c4_i32_672
  let v1041 : BitVec 32 := Scalar.addi v1040 c0_i32_673
  let v1042 : Index := Scalar.indexCast v1041
  ![26, v1042.toNat]
def k0_off28 (i : grid0.Coords) (c0_i32_699 : BitVec 32) : Fin 2 → Nat :=
  let c27 : Index := 27#32
  let arg0 : BitVec 32 := BitVec.ofNat 32 (i 0).val
  let c4_i32_698 : BitVec 32 := 4#32
  let v1080 : BitVec 32 := Scalar.muli arg0 c4_i32_698
  let v1081 : BitVec 32 := Scalar.addi v1080 c0_i32_699
  let v1082 : Index := Scalar.indexCast v1081
  ![27, v1082.toNat]
def k0_off29 (i : grid0.Coords) (c0_i32_725 : BitVec 32) : Fin 2 → Nat :=
  let c28 : Index := 28#32
  let arg0 : BitVec 32 := BitVec.ofNat 32 (i 0).val
  let c4_i32_724 : BitVec 32 := 4#32
  let v1120 : BitVec 32 := Scalar.muli arg0 c4_i32_724
  let v1121 : BitVec 32 := Scalar.addi v1120 c0_i32_725
  let v1122 : Index := Scalar.indexCast v1121
  ![28, v1122.toNat]
def k0_off30 (i : grid0.Coords) (c0_i32_751 : BitVec 32) : Fin 2 → Nat :=
  let c29 : Index := 29#32
  let arg0 : BitVec 32 := BitVec.ofNat 32 (i 0).val
  let c4_i32_750 : BitVec 32 := 4#32
  let v1160 : BitVec 32 := Scalar.muli arg0 c4_i32_750
  let v1161 : BitVec 32 := Scalar.addi v1160 c0_i32_751
  let v1162 : Index := Scalar.indexCast v1161
  ![29, v1162.toNat]
def k0_off31 (i : grid0.Coords) (c0_i32_777 : BitVec 32) : Fin 2 → Nat :=
  let c30 : Index := 30#32
  let arg0 : BitVec 32 := BitVec.ofNat 32 (i 0).val
  let c4_i32_776 : BitVec 32 := 4#32
  let v1200 : BitVec 32 := Scalar.muli arg0 c4_i32_776
  let v1201 : BitVec 32 := Scalar.addi v1200 c0_i32_777
  let v1202 : Index := Scalar.indexCast v1201
  ![30, v1202.toNat]
def k0_off32 (i : grid0.Coords) (c0_i32_803 : BitVec 32) : Fin 2 → Nat :=
  let c31 : Index := 31#32
  let arg0 : BitVec 32 := BitVec.ofNat 32 (i 0).val
  let c4_i32_802 : BitVec 32 := 4#32
  let v1240 : BitVec 32 := Scalar.muli arg0 c4_i32_802
  let v1241 : BitVec 32 := Scalar.addi v1240 c0_i32_803
  let v1242 : Index := Scalar.indexCast v1241
  ![31, v1242.toNat]
def k0_off33 (i : grid0.Coords) (c0_i32_829 : BitVec 32) : Fin 2 → Nat :=
  let c32 : Index := 32#32
  let arg0 : BitVec 32 := BitVec.ofNat 32 (i 0).val
  let c4_i32_828 : BitVec 32 := 4#32
  let v1280 : BitVec 32 := Scalar.muli arg0 c4_i32_828
  let v1281 : BitVec 32 := Scalar.addi v1280 c0_i32_829
  let v1282 : Index := Scalar.indexCast v1281
  ![32, v1282.toNat]
def k0_off34 (i : grid0.Coords) (c0_i32_855 : BitVec 32) : Fin 2 → Nat :=
  let c33 : Index := 33#32
  let arg0 : BitVec 32 := BitVec.ofNat 32 (i 0).val
  let c4_i32_854 : BitVec 32 := 4#32
  let v1320 : BitVec 32 := Scalar.muli arg0 c4_i32_854
  let v1321 : BitVec 32 := Scalar.addi v1320 c0_i32_855
  let v1322 : Index := Scalar.indexCast v1321
  ![33, v1322.toNat]
def k0_off35 (i : grid0.Coords) (c0_i32_881 : BitVec 32) : Fin 2 → Nat :=
  let c34 : Index := 34#32
  let arg0 : BitVec 32 := BitVec.ofNat 32 (i 0).val
  let c4_i32_880 : BitVec 32 := 4#32
  let v1360 : BitVec 32 := Scalar.muli arg0 c4_i32_880
  let v1361 : BitVec 32 := Scalar.addi v1360 c0_i32_881
  let v1362 : Index := Scalar.indexCast v1361
  ![34, v1362.toNat]
def k0_off36 (i : grid0.Coords) (c0_i32_907 : BitVec 32) : Fin 2 → Nat :=
  let c35 : Index := 35#32
  let arg0 : BitVec 32 := BitVec.ofNat 32 (i 0).val
  let c4_i32_906 : BitVec 32 := 4#32
  let v1400 : BitVec 32 := Scalar.muli arg0 c4_i32_906
  let v1401 : BitVec 32 := Scalar.addi v1400 c0_i32_907
  let v1402 : Index := Scalar.indexCast v1401
  ![35, v1402.toNat]
def k0_off37 (i : grid0.Coords) (c0_i32_933 : BitVec 32) : Fin 2 → Nat :=
  let c36 : Index := 36#32
  let arg0 : BitVec 32 := BitVec.ofNat 32 (i 0).val
  let c4_i32_932 : BitVec 32 := 4#32
  let v1440 : BitVec 32 := Scalar.muli arg0 c4_i32_932
  let v1441 : BitVec 32 := Scalar.addi v1440 c0_i32_933
  let v1442 : Index := Scalar.indexCast v1441
  ![36, v1442.toNat]
def k0_off38 (i : grid0.Coords) (c0_i32_959 : BitVec 32) : Fin 2 → Nat :=
  let c37 : Index := 37#32
  let arg0 : BitVec 32 := BitVec.ofNat 32 (i 0).val
  let c4_i32_958 : BitVec 32 := 4#32
  let v1480 : BitVec 32 := Scalar.muli arg0 c4_i32_958
  let v1481 : BitVec 32 := Scalar.addi v1480 c0_i32_959
  let v1482 : Index := Scalar.indexCast v1481
  ![37, v1482.toNat]
def k0_off39 (i : grid0.Coords) (c0_i32_985 : BitVec 32) : Fin 2 → Nat :=
  let c38 : Index := 38#32
  let arg0 : BitVec 32 := BitVec.ofNat 32 (i 0).val
  let c4_i32_984 : BitVec 32 := 4#32
  let v1520 : BitVec 32 := Scalar.muli arg0 c4_i32_984
  let v1521 : BitVec 32 := Scalar.addi v1520 c0_i32_985
  let v1522 : Index := Scalar.indexCast v1521
  ![38, v1522.toNat]
def k0_off40 (i : grid0.Coords) (c0_i32_1011 : BitVec 32) : Fin 2 → Nat :=
  let c39 : Index := 39#32
  let arg0 : BitVec 32 := BitVec.ofNat 32 (i 0).val
  let c4_i32_1010 : BitVec 32 := 4#32
  let v1560 : BitVec 32 := Scalar.muli arg0 c4_i32_1010
  let v1561 : BitVec 32 := Scalar.addi v1560 c0_i32_1011
  let v1562 : Index := Scalar.indexCast v1561
  ![39, v1562.toNat]
def k0_off41 (i : grid0.Coords) (c0_i32_1037 : BitVec 32) : Fin 2 → Nat :=
  let c40 : Index := 40#32
  let arg0 : BitVec 32 := BitVec.ofNat 32 (i 0).val
  let c4_i32_1036 : BitVec 32 := 4#32
  let v1600 : BitVec 32 := Scalar.muli arg0 c4_i32_1036
  let v1601 : BitVec 32 := Scalar.addi v1600 c0_i32_1037
  let v1602 : Index := Scalar.indexCast v1601
  ![40, v1602.toNat]
def k0_off42 (i : grid0.Coords) (c0_i32_1063 : BitVec 32) : Fin 2 → Nat :=
  let c41 : Index := 41#32
  let arg0 : BitVec 32 := BitVec.ofNat 32 (i 0).val
  let c4_i32_1062 : BitVec 32 := 4#32
  let v1640 : BitVec 32 := Scalar.muli arg0 c4_i32_1062
  let v1641 : BitVec 32 := Scalar.addi v1640 c0_i32_1063
  let v1642 : Index := Scalar.indexCast v1641
  ![41, v1642.toNat]
def k0_off43 (i : grid0.Coords) (c0_i32_1089 : BitVec 32) : Fin 2 → Nat :=
  let c42 : Index := 42#32
  let arg0 : BitVec 32 := BitVec.ofNat 32 (i 0).val
  let c4_i32_1088 : BitVec 32 := 4#32
  let v1680 : BitVec 32 := Scalar.muli arg0 c4_i32_1088
  let v1681 : BitVec 32 := Scalar.addi v1680 c0_i32_1089
  let v1682 : Index := Scalar.indexCast v1681
  ![42, v1682.toNat]
def k0_off44 (i : grid0.Coords) (c0_i32_1115 : BitVec 32) : Fin 2 → Nat :=
  let c43 : Index := 43#32
  let arg0 : BitVec 32 := BitVec.ofNat 32 (i 0).val
  let c4_i32_1114 : BitVec 32 := 4#32
  let v1720 : BitVec 32 := Scalar.muli arg0 c4_i32_1114
  let v1721 : BitVec 32 := Scalar.addi v1720 c0_i32_1115
  let v1722 : Index := Scalar.indexCast v1721
  ![43, v1722.toNat]
def k0_off45 (i : grid0.Coords) (c0_i32_1141 : BitVec 32) : Fin 2 → Nat :=
  let c44 : Index := 44#32
  let arg0 : BitVec 32 := BitVec.ofNat 32 (i 0).val
  let c4_i32_1140 : BitVec 32 := 4#32
  let v1760 : BitVec 32 := Scalar.muli arg0 c4_i32_1140
  let v1761 : BitVec 32 := Scalar.addi v1760 c0_i32_1141
  let v1762 : Index := Scalar.indexCast v1761
  ![44, v1762.toNat]
def k0_off46 (i : grid0.Coords) (c0_i32_1167 : BitVec 32) : Fin 2 → Nat :=
  let c45 : Index := 45#32
  let arg0 : BitVec 32 := BitVec.ofNat 32 (i 0).val
  let c4_i32_1166 : BitVec 32 := 4#32
  let v1800 : BitVec 32 := Scalar.muli arg0 c4_i32_1166
  let v1801 : BitVec 32 := Scalar.addi v1800 c0_i32_1167
  let v1802 : Index := Scalar.indexCast v1801
  ![45, v1802.toNat]
def k0_off47 (i : grid0.Coords) (c0_i32_1193 : BitVec 32) : Fin 2 → Nat :=
  let c46 : Index := 46#32
  let arg0 : BitVec 32 := BitVec.ofNat 32 (i 0).val
  let c4_i32_1192 : BitVec 32 := 4#32
  let v1840 : BitVec 32 := Scalar.muli arg0 c4_i32_1192
  let v1841 : BitVec 32 := Scalar.addi v1840 c0_i32_1193
  let v1842 : Index := Scalar.indexCast v1841
  ![46, v1842.toNat]
def k0_off48 (i : grid0.Coords) (c0_i32_1219 : BitVec 32) : Fin 2 → Nat :=
  let c47 : Index := 47#32
  let arg0 : BitVec 32 := BitVec.ofNat 32 (i 0).val
  let c4_i32_1218 : BitVec 32 := 4#32
  let v1880 : BitVec 32 := Scalar.muli arg0 c4_i32_1218
  let v1881 : BitVec 32 := Scalar.addi v1880 c0_i32_1219
  let v1882 : Index := Scalar.indexCast v1881
  ![47, v1882.toNat]
def k0_off49 (i : grid0.Coords) (c0_i32_1245 : BitVec 32) : Fin 2 → Nat :=
  let c48 : Index := 48#32
  let arg0 : BitVec 32 := BitVec.ofNat 32 (i 0).val
  let c4_i32_1244 : BitVec 32 := 4#32
  let v1920 : BitVec 32 := Scalar.muli arg0 c4_i32_1244
  let v1921 : BitVec 32 := Scalar.addi v1920 c0_i32_1245
  let v1922 : Index := Scalar.indexCast v1921
  ![48, v1922.toNat]
def k0_off50 (i : grid0.Coords) (c0_i32_1271 : BitVec 32) : Fin 2 → Nat :=
  let c49 : Index := 49#32
  let arg0 : BitVec 32 := BitVec.ofNat 32 (i 0).val
  let c4_i32_1270 : BitVec 32 := 4#32
  let v1960 : BitVec 32 := Scalar.muli arg0 c4_i32_1270
  let v1961 : BitVec 32 := Scalar.addi v1960 c0_i32_1271
  let v1962 : Index := Scalar.indexCast v1961
  ![49, v1962.toNat]
def k0_off51 (i : grid0.Coords) (c0_i32_1297 : BitVec 32) : Fin 2 → Nat :=
  let c50 : Index := 50#32
  let arg0 : BitVec 32 := BitVec.ofNat 32 (i 0).val
  let c4_i32_1296 : BitVec 32 := 4#32
  let v2000 : BitVec 32 := Scalar.muli arg0 c4_i32_1296
  let v2001 : BitVec 32 := Scalar.addi v2000 c0_i32_1297
  let v2002 : Index := Scalar.indexCast v2001
  ![50, v2002.toNat]
def k0_off52 (i : grid0.Coords) (c0_i32_1323 : BitVec 32) : Fin 2 → Nat :=
  let c51 : Index := 51#32
  let arg0 : BitVec 32 := BitVec.ofNat 32 (i 0).val
  let c4_i32_1322 : BitVec 32 := 4#32
  let v2040 : BitVec 32 := Scalar.muli arg0 c4_i32_1322
  let v2041 : BitVec 32 := Scalar.addi v2040 c0_i32_1323
  let v2042 : Index := Scalar.indexCast v2041
  ![51, v2042.toNat]
def k0_off53 (i : grid0.Coords) (c0_i32_1349 : BitVec 32) : Fin 2 → Nat :=
  let c52 : Index := 52#32
  let arg0 : BitVec 32 := BitVec.ofNat 32 (i 0).val
  let c4_i32_1348 : BitVec 32 := 4#32
  let v2080 : BitVec 32 := Scalar.muli arg0 c4_i32_1348
  let v2081 : BitVec 32 := Scalar.addi v2080 c0_i32_1349
  let v2082 : Index := Scalar.indexCast v2081
  ![52, v2082.toNat]
def k0_off54 (i : grid0.Coords) (c0_i32_1375 : BitVec 32) : Fin 2 → Nat :=
  let c53 : Index := 53#32
  let arg0 : BitVec 32 := BitVec.ofNat 32 (i 0).val
  let c4_i32_1374 : BitVec 32 := 4#32
  let v2120 : BitVec 32 := Scalar.muli arg0 c4_i32_1374
  let v2121 : BitVec 32 := Scalar.addi v2120 c0_i32_1375
  let v2122 : Index := Scalar.indexCast v2121
  ![53, v2122.toNat]
def k0_off55 (i : grid0.Coords) (c0_i32_1401 : BitVec 32) : Fin 2 → Nat :=
  let c54 : Index := 54#32
  let arg0 : BitVec 32 := BitVec.ofNat 32 (i 0).val
  let c4_i32_1400 : BitVec 32 := 4#32
  let v2160 : BitVec 32 := Scalar.muli arg0 c4_i32_1400
  let v2161 : BitVec 32 := Scalar.addi v2160 c0_i32_1401
  let v2162 : Index := Scalar.indexCast v2161
  ![54, v2162.toNat]
def k0_off56 (i : grid0.Coords) (c0_i32_1427 : BitVec 32) : Fin 2 → Nat :=
  let c55 : Index := 55#32
  let arg0 : BitVec 32 := BitVec.ofNat 32 (i 0).val
  let c4_i32_1426 : BitVec 32 := 4#32
  let v2200 : BitVec 32 := Scalar.muli arg0 c4_i32_1426
  let v2201 : BitVec 32 := Scalar.addi v2200 c0_i32_1427
  let v2202 : Index := Scalar.indexCast v2201
  ![55, v2202.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S56x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7168x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 8, 10], ![false, false, false]⟩

def k1_cond1 (i : grid1.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k1_off1 (i : grid1.Coords) : Fin 3 → Nat :=
  let c0_10 : Index := 0#32
  let arg1 : BitVec 32 := BitVec.ofNat 32 (i 1).val
  let v15 : Index := Scalar.indexCast arg1
  let c0_11 : Index := 0#32
  ![0, v15.toNat, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage1_0 : Fin 2 → Memref sig .tc .vmem S56x8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1x512x7168 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S7168x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== ReferenceIdeal.lean ====
abbrev S8x4096x7168 : Shape := ⟨3, ![8, 4096, 7168]⟩
abbrev S56x8x4096 : Shape := ⟨3, ![56, 8, 4096]⟩
abbrev S7168x5120 : Shape := ⟨2, ![7168, 5120]⟩
abbrev S56x40 : Shape := ⟨2, ![56, 40]⟩
abbrev S8x4096x5120 : Shape := ⟨3, ![8, 4096, 5120]⟩
abbrev S8x4096x56 : Shape := ⟨3, ![8, 4096, 56]⟩
abbrev S8x4096x56x128 : Shape := ⟨4, ![8, 4096, 56, 128]⟩
abbrev S8x4096x56x1 : Shape := ⟨4, ![8, 4096, 56, 1]⟩
abbrev S56x128x40x128 : Shape := ⟨4, ![56, 128, 40, 128]⟩
abbrev S56x1x40x1 : Shape := ⟨4, ![56, 1, 40, 1]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x7168, .fp8e4m3⟩
  | .hbm, ⟨1, _⟩ => ⟨S56x8x4096, .f32⟩
  | .hbm, ⟨2, _⟩ => ⟨S7168x5120, .fp8e4m3⟩
  | .hbm, ⟨3, _⟩ => ⟨S56x40, .f32⟩
  | .hbm, ⟨4, _⟩ => ⟨S8x4096x5120, .bf16⟩
  | .hbm, ⟨5, _⟩ => ⟨S8x4096x5120, .bf16⟩
  | .local _ .vmem, ⟨0, _⟩ => ⟨S8x4096x7168, .fp8e4m3⟩
  | .local _ .vmem, ⟨1, _⟩ => ⟨S56x8x4096, .f32⟩
  | .local _ .vmem, ⟨2, _⟩ => ⟨S7168x5120, .fp8e4m3⟩
  | .local _ .vmem, ⟨3, _⟩ => ⟨S56x40, .f32⟩
  | .local _ .vmem, ⟨4, _⟩ => ⟨S8x4096x5120, .bf16⟩
  | .local _ .vmem, ⟨5, _⟩ => ⟨S8x4096x5120, .bf16⟩
  | _, _ => ⟨S8x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Deq.lean ====
/- The first call of the program, `dequant_w`: what its body leaves in the output block at each grid point,
   the proof data of its pipeline and the obligation of its body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first call, `dequant_w`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S7168x512 .bf16 := (Memref.whole cc0_stg2_0 : Memref sig .tc .vmem S7168x512 .bf16).view
/-- Each window's current staging memref at point `t`, spelled as the pipeline passes it (`bodyAt0`), and its wholeness. -/
abbrev ms0_0 (t : Fin cfg0.N) : Memref sig .tc .smem S56x40 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7168x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x512 .bf16 := win0_2.stage (cfg0.slots t 2)
abbrev hs0_2 (t : Fin cfg0.N) : (ms0_2 t).IsWhole := hstage0_2 ((cfg0.slots t 2).cast nbuf0_2)

-- (the run's proof term is large: the definition's epilogue — `abstractNestedProofs` — walks it past the default budget)
set_option maxHeartbeats 6824000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S56x40 .f32) (harg1 : arg1.IsWhole) (arg2 : Memref sig .tc .vmem S7168x512 .fp8e4m3) (harg2 : arg2.IsWhole) (arg3 : Memref sig .tc .vmem S7168x512 .bf16) (harg3 : arg3.IsWhole)
    (x0 : Vec F S56x40 .f32) (x1 : Vec F S7168x512 .fp8e4m3) :
    { L2 : List (View.Piece (Elt F) S7168x512 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0_dequant_w i arg1 harg1 arg2 harg2 arg3 harg3) K } := by
  refine ⟨?_, fun E K => ?run⟩
  case run =>
    simp only [cc0_dequant_w_eq_skeleton]; unfold cc0_dequant_w_skel
    simp only [k0_part68_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (224 stores of `S128x128`, checked by the kernel's evaluation: Lib/Ring.lean `Piece.tiledL`, linear in the pieces, through a loop's `@[irreducible]` trip theorem too), so they cover it. -/
theorem cover0_A_2 (c : Dev nD) (i : grid0.Coords) (arg1 : Memref sig .tc .smem S56x40 .f32) (harg1 : arg1.IsWhole) (arg2 : Memref sig .tc .vmem S7168x512 .fp8e4m3) (harg2 : arg2.IsWhole) (arg3 : Memref sig .tc .vmem S7168x512 .bf16) (harg3 : arg3.IsWhole)
    (x0 : Vec F S56x40 .f32) (x1 : Vec F S7168x512 .fp8e4m3) (y : S7168x512.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S128x128.size (by sl_kernel_rfl) y

/-- What the run leaves in output 2's staging buffer: its pieces read back over junk. -/
def out0_A_2 (c : Dev nD) (i : grid0.Coords) (arg1 : Memref sig .tc .smem S56x40 .f32) (harg1 : arg1.IsWhole) (arg2 : Memref sig .tc .vmem S7168x512 .fp8e4m3) (harg2 : arg2.IsWhole) (arg3 : Memref sig .tc .vmem S7168x512 .bf16) (harg3 : arg3.IsWhole)
    (x0 : Vec F S56x40 .f32) (x1 : Vec F S7168x512 .fp8e4m3) : Vec F S7168x512 .bf16 :=
  VO0_2.read (Elt F) (VO0_2.writes (Elt F) VO0_2.junk (kernelRun0_A c i arg1 harg1 arg2 harg2 arg3 harg3 x0 x1).1)

/-! ## What the outputs hold after each point -/

/-- What the outputs' staging buffers hold after the body at point `t`: the run's contents at
    the point's memrefs and input blocks. -/
def outsAt0 (c : Dev nD) (t : Fin cfg0.N) : Vec F S7168x512 .bf16 :=
  out0_A_2 c (grid0.coords t) (ms0_0 t) (hs0_0 t) (ms0_1 t) (hs0_1 t) (ms0_2 t) (hs0_2 t) (iblk0 V c 0 t) (iblk0 V c 1 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Hand

end
-- ==== Proof.Kernel.MmRun.lean ====
/- The second call of the program, `scaled_matmul`: its windows, its branch condition in closed form, and the run of
   its body in the two cases (the scratch is filled at the first column block of a row block, and read at the others). -/
module

public import proofs.«01_k».proof.Proof.Kernel.Deq

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S1x512x512 .bf16 := (Memref.whole cc1_stg4_0 : Memref sig .tc .vmem S1x512x512 .bf16).view
/-- Each window's current staging memref at point `t`, spelled as the pipeline passes it (`bodyAt1`), and its wholeness. -/
abbrev ms1_0 (t : Fin cfg1.N) : Memref sig .tc .vmem S56x8x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x7168 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x512 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S512x7168 .bf16 := Memref.whole cc1_scratch0

/-- The scratch the kernel keeps between points, as a view: what it holds is stated through it. -/
abbrev VS1_0 : View sig .tc .vmem S512x7168 .bf16 := scM1_0.view

/-- The region's scoped rest with the scratch's assertion `P` at its place: the first call's staging buffers at anything,
    the scratch as `P` says, and the generator register at some state. -/
abbrev withScratch (c : Dev nD) (P : sProp 𝕄) : sProp 𝕄 :=
  iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P ∗ (∃ f : Buf (Elt F) ((c : Thread nD τ).loc cc0_stg0_0), ((c : Thread nD τ).loc cc0_stg0_0) ↦{fullShare} f)) ∗ (∃ r, prngReg c r))

/-- The invariant the region is entered with, with the scratch as a memref owned at some contents. -/
theorem PhiA1_eq (c : Dev nD) :
    (Pipeline.ΦA spec1 c : sProp 𝕄) = withScratch c iprop(∃ d, owns (c : Thread nD τ) scM1_0 fullShare d) := by
  unfold Pipeline.ΦA; rw [scopedRest1_eq]; simp only [withScratch, scM1_0, owns_whole]; try rfl

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 10) — by arithmetic of the point. -/
theorem hcond1_0 : ∀ t : Fin cfg1.N, cond1_0 (grid1.coords t) ↔ t.val % 10 = 0 :=
  (fun t => by
    have ht : t.val < 640 := Nat.lt_of_lt_of_eq t.isLt N_1
    have e0 : (grid1.coords t 0).val = t.val / 80 % 8 := Pipeline.Grid.coords_val t 0 (by decide) rfl
    have e1 : (grid1.coords t 1).val = t.val / 10 % 8 := Pipeline.Grid.coords_val t 1 (by decide) rfl
    have e2 : (grid1.coords t 2).val = t.val / 1 % 10 := Pipeline.Grid.coords_val t 2 (by decide) rfl
    simp only [cond1_0, k1_cond1, e0, e1, e2]
    word_cmp
   : ∀ t : Fin grid1.N, cond1_0 (grid1.coords t) ↔ t.val % 10 = 0)

-- (the run's proof term is large: the definition's epilogue — `abstractNestedProofs` — walks it past the default budget)
set_option maxHeartbeats 1092000 in
/-- What the body's stores leave in each output's staging memref, as pieces (last first) IN CASE A (`scf.if` 0 taken: points 0, 10, … 630: 64 of 640), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) :
    Σ' (L4 : List (View.Piece (Elt F) S1x512x512 .bf16)), { LS0 : List (View.Piece (Elt F) S512x7168 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_scaled_matmul i arg3 harg3 arg4 harg4 arg5 harg5 arg6 harg6 arg7 harg7 arg8 harg8) K } := by
  refine ⟨?_, ?_, fun E K => ?run⟩
  case run =>
    simp only [cc1_scaled_matmul_eq_skeleton]; unfold cc1_scaled_matmul_skel
    simp only [k1_part16_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

-- (the run's proof term is large: the definition's epilogue — `abstractNestedProofs` — walks it past the default budget)
set_option maxHeartbeats 1000000 in
/-- What the body's stores leave in each output's staging memref, as pieces (last first) IN CASE B (`scf.if` 0 not taken: points 1, 2, … 639: 576 of 640), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : ¬cond1_0 i)
    (x0 : Vec F S56x8x512 .f32) (x1 : Vec F S1x512x7168 .fp8e4m3) (x2 : Vec F S7168x512 .bf16) (x3 : Vec F S1x512x512 .bf16) (xs0 : Vec F S512x7168 .bf16) :
    Σ' (L4 : List (View.Piece (Elt F) S1x512x512 .bf16)), { LS0 : List (View.Piece (Elt F) S512x7168 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xs0) -∗ K ⟨⟩))
          ⊢ wp frame (wpE (defs₀ (F := F)) Variants.none c none) E (cc1_scaled_matmul i arg3 harg3 arg4 harg4 arg5 harg5 arg6 harg6 arg7 harg7 arg8 harg8) K } := by
  refine ⟨?_, [], fun E K => ?run⟩
  case run =>
    simp only [cc1_scaled_matmul_eq_skeleton]; unfold cc1_scaled_matmul_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; isplitr; · ipureintro; exact harg8.read_unread _
    iexact HS0

end Cert.Kernel.Hand

end
-- ==== Proof.Kernel.Mm.lean ====
/- The second call of the program, `scaled_matmul`: what its body leaves in the output block and in the scratch at each
   grid point, the invariant that keeps the scratch between points, the proof data and the obligation of its body. -/
module

public import proofs.«01_k».proof.Proof.Kernel.MmRun
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 4 tile its block (1 store of `S1x512x512`, checked by the kernel's evaluation: Lib/Ring.lean `Piece.tiledL`, linear in the pieces, through a loop's `@[irreducible]` trip theorem too), so they cover it. -/
theorem cover1_A_4 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) (y : S1x512x512.Idx) :
    ∃ pc ∈ (kernelRun1_A c i arg3 harg3 arg4 harg4 arg5 harg5 arg6 harg6 arg7 harg7 arg8 harg8 hc0 x0 x1 x2 x3).1, y ∈ pc.1.set :=
  View.cover_of_tiledL (kernelRun1_A c i arg3 harg3 arg4 harg4 arg5 harg5 arg6 harg6 arg7 harg7 arg8 harg8 hc0 x0 x1 x2 x3).1 S1x512x512.size (by sl_kernel_rfl) y

/-- What case A leaves in output 4's staging buffer: its pieces read back over junk. -/
def out1_A_4 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) : Vec F S1x512x512 .bf16 :=
  VO1_4.read (Elt F) (VO1_4.writes (Elt F) VO1_4.junk (kernelRun1_A c i arg3 harg3 arg4 harg4 arg5 harg5 arg6 harg6 arg7 harg7 arg8 harg8 hc0 x0 x1 x2 x3).1)

/-- Case A's pieces for scratch `arg8`, which the kernel carries between points, cover it: 56 pieces of `S512x128` tiling it (Lib/Ring.lean `Piece.tiledL`). -/
theorem scover1_A_0 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) (y : S512x7168.Idx) :
    ∃ pc ∈ (kernelRun1_A c i arg3 harg3 arg4 harg4 arg5 harg5 arg6 harg6 arg7 harg7 arg8 harg8 hc0 x0 x1 x2 x3).2.1, y ∈ pc.1.set :=
  View.cover_of_tiledL (kernelRun1_A c i arg3 harg3 arg4 harg4 arg5 harg5 arg6 harg6 arg7 harg7 arg8 harg8 hc0 x0 x1 x2 x3).2.1 S512x128.size (by sl_kernel_rfl) y

/-- What case A leaves in scratch `arg8`: its pieces read back over junk. -/
def sout1_A_0 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) : Vec F S512x7168 .bf16 :=
  VS1_0.read (Elt F) (VS1_0.writes (Elt F) VS1_0.junk (kernelRun1_A c i arg3 harg3 arg4 harg4 arg5 harg5 arg6 harg6 arg7 harg7 arg8 harg8 hc0 x0 x1 x2 x3).2.1)

/-- Case B's pieces for output 4 tile its block (1 store of `S1x512x512`, checked by the kernel's evaluation: Lib/Ring.lean `Piece.tiledL`, linear in the pieces, through a loop's `@[irreducible]` trip theorem too), so they cover it. -/
theorem cover1_B_4 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : ¬cond1_0 i)
    (x0 : Vec F S56x8x512 .f32) (x1 : Vec F S1x512x7168 .fp8e4m3) (x2 : Vec F S7168x512 .bf16) (x3 : Vec F S1x512x512 .bf16) (xs0 : Vec F S512x7168 .bf16) (y : S1x512x512.Idx) :
    ∃ pc ∈ (kernelRun1_B c i arg3 harg3 arg4 harg4 arg5 harg5 arg6 harg6 arg7 harg7 arg8 harg8 hc0 x0 x1 x2 x3 xs0).1, y ∈ pc.1.set :=
  View.cover_of_tiledL (kernelRun1_B c i arg3 harg3 arg4 harg4 arg5 harg5 arg6 harg6 arg7 harg7 arg8 harg8 hc0 x0 x1 x2 x3 xs0).1 S1x512x512.size (by sl_kernel_rfl) y

/-- What case B leaves in output 4's staging buffer: its pieces read back over junk. -/
def out1_B_4 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : ¬cond1_0 i)
    (x0 : Vec F S56x8x512 .f32) (x1 : Vec F S1x512x7168 .fp8e4m3) (x2 : Vec F S7168x512 .bf16) (x3 : Vec F S1x512x512 .bf16) (xs0 : Vec F S512x7168 .bf16) : Vec F S1x512x512 .bf16 :=
  VO1_4.read (Elt F) (VO1_4.writes (Elt F) VO1_4.junk (kernelRun1_B c i arg3 harg3 arg4 harg4 arg5 harg5 arg6 harg6 arg7 harg7 arg8 harg8 hc0 x0 x1 x2 x3 xs0).1)

/-- Case B stores nothing into scratch `arg8`: it holds what the point before left. -/
def sout1_B_0 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : ¬cond1_0 i)
    (x0 : Vec F S56x8x512 .f32) (x1 : Vec F S1x512x7168 .fp8e4m3) (x2 : Vec F S7168x512 .bf16) (x3 : Vec F S1x512x512 .bf16) (xs0 : Vec F S512x7168 .bf16) : Vec F S512x7168 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x512x512 .bf16 × Vec F S512x7168 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 10 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A: that case's contents. -/
theorem outsAt1_A (c : Dev nD) (t : Fin cfg1.N) (h0 : t.val % 10 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 10 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => withScratch c (owns (c : Thread nD τ) scM1_0 fullShare (outsAt1 V c n hn).2)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = withScratch c (owns (c : Thread nD τ) scM1_0 fullShare (outsAt1 V c n hn).2) := rfl

/-- Before a point that is not the first: the carried scratch at what the point before left. -/
theorem PhiS_pos (c : Dev nD) (n : ℕ) (h : n ≤ cfg1.N) (hz : n ≠ 0) :
    PhiS V c n h = withScratch c (owns (c : Thread nD τ) scM1_0 fullShare (outsAt1 V c (n - 1) (by omega)).2) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 3200000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4]
  rw [show (dat1 V c).Φ t.succ = PhiS V c (t.val + 1) t.isLt from rfl, PhiS_succ]
  have hN : t.val < 640 := lt_of_lt_of_eq t.isLt (show cfg1.N = 640 from N_1)
  by_cases h0 : t.val % 10 = 0
  · by_cases hz : t.val = 0
    · rw [PhiS_castSucc V c t, PhiS_zero V c _ _ hz, PhiA1_eq]
      rw [outsAt1_A V c t h0]
      unfold out1_A_4 sout1_A_0; (try dsimp only)
      iintro ⟨⟨⟨HR0, HR1, HR2, HR3, HS0, HR5⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR0 HR1 HR2 HR3 HS0 HR5 Hg]
      · isplitl [HR0 HR1 HR2 HR3 HS0 HR5]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (scover1_A_0 c _ _ _ _ _ _ _ _ _ _ _ _ _ _ _ _ _ _)
          iexact HR5
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · rw [PhiS_castSucc V c t, PhiS_pos V c _ _ hz]
      rw [outsAt1_A V c t h0]
      unfold out1_A_4 sout1_A_0; (try dsimp only)
      iintro ⟨⟨⟨HR0, HR1, HR2, HR3, HS0, HR5⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HR0 HR1 HR2 HR3 HS0 HR5 Hg]
      · isplitl [HR0 HR1 HR2 HR3 HS0 HR5]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (scover1_A_0 c _ _ _ _ _ _ _ _ _ _ _ _ _ _ _ _ _ _)
          iexact HR5
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · by_cases hz : t.val = 0
    · exfalso; have hN : t.val < 640 := lt_of_lt_of_eq t.isLt (show cfg1.N = 640 from N_1); omega
    · rw [PhiS_castSucc V c t, PhiS_pos V c _ _ hz]
      rw [outsAt1_B V c t h0]
      unfold out1_B_4 sout1_B_0; (try dsimp only)
      iintro ⟨⟨⟨HR0, HR1, HR2, HR3, HS0, HR5⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HR0 HR1 HR2 HR3 HS0 HR5 Hg]
      · isplitl [HR0 HR1 HR2 HR3 HS0 HR5]
        · isplitl [HR0]; · iexact HR0
          isplitl [HR1]; · iexact HR1
          isplitl [HR2]; · iexact HR2
          isplitl [HR3]; · iexact HR3
          isplitl [HS0]
          · iexact HS0
          iexact HR5
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HS0, HR5⟩, Hg⟩
  isplitl [HR0 HR1 HR2 HR3 HS0 HR5]
  · isplitl [HR0]; · iexact HR0
    isplitl [HR1]; · iexact HR1
    isplitl [HR2]; · iexact HR2
    isplitl [HR3]; · iexact HR3
    isplitl [HS0]; · iexists _; iexact HS0
    iexact HR5
  iexact Hg

/-- The same after the last point. -/
theorem hout (c : Dev nD) : (dat1 V c).Φ (Fin.last cfg1.N) ⊢ Pipeline.ΦA spec1 c :=
  Phi_out V c _ (by rw [Fin.val_last]; have : cfg1.N = 640 := N_1; omega)

end Cert.Kernel.Hand

end
-- ==== Proof.Kernel.Run.lean ====
/- The run of the whole program: its two regions one after the other, from the launch to the return. -/
module

public import proofs.«01_k».proof.Proof.Kernel.Mm
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: no host stretch writes one and no region may change one (a region reads it
    through an input window or bypasses it) -/

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)
theorem W2_main_arg3 (c : Dev nD) : W2 m ρ c (Proc.devRef .tc main_arg3) = m ((c : Thread nD τ).loc main_arg3) :=
  W2_args m ρ c main_arg3 (by decide)
theorem W2_main_arg4 (c : Dev nD) : W2 m ρ c (Proc.devRef .tc main_arg4) = m ((c : Thread nD τ).loc main_arg4) :=
  W2_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W2`, the generator register at some state. -/
abbrev Tₙ (c : Dev nD) : sProp 𝕄 := iprop(StableHlo.held (c : Thread nD τ) (Pipeline.ucRefs τ sig) (W2 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin (V1 m ρ) c
    unfold Pipeline.ΦA at h
    rw [show (pdats m ρ 1 c).Φ 0 = (dat1 (V1 m ρ) c).Φ 0 from rfl]
    iintro ⟨Hp, -, Hr⟩
    iapply h
    isplitl [Hr]; · iexact Hr
    iexact Hp
  hout c := by
    have h := hout (V1 m ρ) c
    unfold Pipeline.ΦA at h
    rw [Pipeline.ownSems0_none, show (pdats m ρ 1 c).Φ (Fin.last _) = (dat1 (V1 m ρ) c).Φ (Fin.last _) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 2 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN at any `F`: at the compiled mesh, from any memory with zero counters, every weakly fair execution of @main on
    the TensorCores terminates, nothing faulting, and every final state has the argument arrays as launched, the result at
    what the second region leaves in it, and every semaphore counter of the machine at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v1) = W2 m ρ c (Proc.devRef .tc main_v1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       h c _ (mem_uc main_v1 (by decide))⟩), funext fun g => hz g (.inr (no_unscoped g.2))⟩)

/-- THE FRAME at any `F`: the run without the result's contents. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩) (run_main m ρ)

end Cert.Kernel.Hand

end
-- ==== Proof.KernelIdeal.Deq.lean ====
/- The first call of the program, `dequant_w`: what its body leaves in the output block at each grid point,
   the proof data of its pipeline and the obligation of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first call, `dequant_w`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S7168x512 .bf16 := (Memref.whole cc0_stg2_0 : Memref sig .tc .vmem S7168x512 .bf16).view
/-- Each window's current staging memref at point `t`, spelled as the pipeline passes it (`bodyAt0`), and its wholeness. -/
abbrev ms0_0 (t : Fin cfg0.N) : Memref sig .tc .smem S56x40 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7168x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x512 .bf16 := win0_2.stage (cfg0.slots t 2)
abbrev hs0_2 (t : Fin cfg0.N) : (ms0_2 t).IsWhole := hstage0_2 ((cfg0.slots t 2).cast nbuf0_2)

-- (the run's proof term is large: the definition's epilogue — `abstractNestedProofs` — walks it past the default budget)
set_option maxHeartbeats 6824000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S56x40 .f32) (harg1 : arg1.IsWhole) (arg2 : Memref sig .tc .vmem S7168x512 .fp8e4m3) (harg2 : arg2.IsWhole) (arg3 : Memref sig .tc .vmem S7168x512 .bf16) (harg3 : arg3.IsWhole)
    (x0 : Vec F S56x40 .f32) (x1 : Vec F S7168x512 .fp8e4m3) :
    { L2 : List (View.Piece (Elt F) S7168x512 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0_dequant_w i arg1 harg1 arg2 harg2 arg3 harg3) K } := by
  refine ⟨?_, fun E K => ?run⟩
  case run =>
    simp only [cc0_dequant_w_eq_skeleton]; unfold cc0_dequant_w_skel
    simp only [k0_part68_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (224 stores of `S128x128`, checked by the kernel's evaluation: Lib/Ring.lean `Piece.tiledL`, linear in the pieces, through a loop's `@[irreducible]` trip theorem too), so they cover it. -/
theorem cover0_A_2 (c : Dev nD) (i : grid0.Coords) (arg1 : Memref sig .tc .smem S56x40 .f32) (harg1 : arg1.IsWhole) (arg2 : Memref sig .tc .vmem S7168x512 .fp8e4m3) (harg2 : arg2.IsWhole) (arg3 : Memref sig .tc .vmem S7168x512 .bf16) (harg3 : arg3.IsWhole)
    (x0 : Vec F S56x40 .f32) (x1 : Vec F S7168x512 .fp8e4m3) (y : S7168x512.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S128x128.size (by sl_kernel_rfl) y

/-- What the run leaves in output 2's staging buffer: its pieces read back over junk. -/
def out0_A_2 (c : Dev nD) (i : grid0.Coords) (arg1 : Memref sig .tc .smem S56x40 .f32) (harg1 : arg1.IsWhole) (arg2 : Memref sig .tc .vmem S7168x512 .fp8e4m3) (harg2 : arg2.IsWhole) (arg3 : Memref sig .tc .vmem S7168x512 .bf16) (harg3 : arg3.IsWhole)
    (x0 : Vec F S56x40 .f32) (x1 : Vec F S7168x512 .fp8e4m3) : Vec F S7168x512 .bf16 :=
  VO0_2.read (Elt F) (VO0_2.writes (Elt F) VO0_2.junk (kernelRun0_A c i arg1 harg1 arg2 harg2 arg3 harg3 x0 x1).1)

/-! ## What the outputs hold after each point -/

/-- What the outputs' staging buffers hold after the body at point `t`: the run's contents at
    the point's memrefs and input blocks. -/
def outsAt0 (c : Dev nD) (t : Fin cfg0.N) : Vec F S7168x512 .bf16 :=
  out0_A_2 c (grid0.coords t) (ms0_0 t) (hs0_0 t) (ms0_1 t) (hs0_1 t) (ms0_2 t) (hs0_2 t) (iblk0 V c 0 t) (iblk0 V c 1 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.MmRun.lean ====
/- The second call of the program, `scaled_matmul`: its windows, its branch condition in closed form, and the run of
   its body in the two cases (the scratch is filled at the first column block of a row block, and read at the others). -/
module

public import proofs.«01_k».proof.Proof.KernelIdeal.Deq

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S1x512x512 .bf16 := (Memref.whole cc1_stg4_0 : Memref sig .tc .vmem S1x512x512 .bf16).view
/-- Each window's current staging memref at point `t`, spelled as the pipeline passes it (`bodyAt1`), and its wholeness. -/
abbrev ms1_0 (t : Fin cfg1.N) : Memref sig .tc .vmem S56x8x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x7168 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x512 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S512x7168 .bf16 := Memref.whole cc1_scratch0

/-- The scratch the kernel keeps between points, as a view: what it holds is stated through it. -/
abbrev VS1_0 : View sig .tc .vmem S512x7168 .bf16 := scM1_0.view

/-- The region's scoped rest with the scratch's assertion `P` at its place: the first call's staging buffers at anything,
    the scratch as `P` says, and the generator register at some state. -/
abbrev withScratch (c : Dev nD) (P : sProp 𝕄) : sProp 𝕄 :=
  iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P ∗ (∃ f : Buf (Elt F) ((c : Thread nD τ).loc cc0_stg0_0), ((c : Thread nD τ).loc cc0_stg0_0) ↦{fullShare} f)) ∗ (∃ r, prngReg c r))

/-- The invariant the region is entered with, with the scratch as a memref owned at some contents. -/
theorem PhiA1_eq (c : Dev nD) :
    (Pipeline.ΦA spec1 c : sProp 𝕄) = withScratch c iprop(∃ d, owns (c : Thread nD τ) scM1_0 fullShare d) := by
  unfold Pipeline.ΦA; rw [scopedRest1_eq]; simp only [withScratch, scM1_0, owns_whole]; try rfl

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 10) — by arithmetic of the point. -/
theorem hcond1_0 : ∀ t : Fin cfg1.N, cond1_0 (grid1.coords t) ↔ t.val % 10 = 0 :=
  (fun t => by
    have ht : t.val < 640 := Nat.lt_of_lt_of_eq t.isLt N_1
    have e0 : (grid1.coords t 0).val = t.val / 80 % 8 := Pipeline.Grid.coords_val t 0 (by decide) rfl
    have e1 : (grid1.coords t 1).val = t.val / 10 % 8 := Pipeline.Grid.coords_val t 1 (by decide) rfl
    have e2 : (grid1.coords t 2).val = t.val / 1 % 10 := Pipeline.Grid.coords_val t 2 (by decide) rfl
    simp only [cond1_0, k1_cond1, e0, e1, e2]
    word_cmp
   : ∀ t : Fin grid1.N, cond1_0 (grid1.coords t) ↔ t.val % 10 = 0)

-- (the run's proof term is large: the definition's epilogue — `abstractNestedProofs` — walks it past the default budget)
set_option maxHeartbeats 1092000 in
/-- What the body's stores leave in each output's staging memref, as pieces (last first) IN CASE A (`scf.if` 0 taken: points 0, 10, … 630: 64 of 640), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) :
    Σ' (L4 : List (View.Piece (Elt F) S1x512x512 .bf16)), { LS0 : List (View.Piece (Elt F) S512x7168 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_scaled_matmul i arg3 harg3 arg4 harg4 arg5 harg5 arg6 harg6 arg7 harg7 arg8 harg8) K } := by
  refine ⟨?_, ?_, fun E K => ?run⟩
  case run =>
    simp only [cc1_scaled_matmul_eq_skeleton]; unfold cc1_scaled_matmul_skel
    simp only [k1_part16_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

-- (the run's proof term is large: the definition's epilogue — `abstractNestedProofs` — walks it past the default budget)
set_option maxHeartbeats 1000000 in
/-- What the body's stores leave in each output's staging memref, as pieces (last first) IN CASE B (`scf.if` 0 not taken: points 1, 2, … 639: 576 of 640), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : ¬cond1_0 i)
    (x0 : Vec F S56x8x512 .f32) (x1 : Vec F S1x512x7168 .fp8e4m3) (x2 : Vec F S7168x512 .bf16) (x3 : Vec F S1x512x512 .bf16) (xs0 : Vec F S512x7168 .bf16) :
    Σ' (L4 : List (View.Piece (Elt F) S1x512x512 .bf16)), { LS0 : List (View.Piece (Elt F) S512x7168 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xs0) -∗ K ⟨⟩))
          ⊢ wp frame (wpE (defs₀ (F := F)) Variants.none c none) E (cc1_scaled_matmul i arg3 harg3 arg4 harg4 arg5 harg5 arg6 harg6 arg7 harg7 arg8 harg8) K } := by
  refine ⟨?_, [], fun E K => ?run⟩
  case run =>
    simp only [cc1_scaled_matmul_eq_skeleton]; unfold cc1_scaled_matmul_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; isplitr; · ipureintro; exact harg8.read_unread _
    iexact HS0

end Cert.KernelIdeal.Hand

end
-- ==== Proof.KernelIdeal.Mm.lean ====
/- The second call of the program, `scaled_matmul`: what its body leaves in the output block and in the scratch at each
   grid point, the invariant that keeps the scratch between points, the proof data and the obligation of its body. -/
module

public import proofs.«01_k».proof.Proof.KernelIdeal.MmRun
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 4 tile its block (1 store of `S1x512x512`, checked by the kernel's evaluation: Lib/Ring.lean `Piece.tiledL`, linear in the pieces, through a loop's `@[irreducible]` trip theorem too), so they cover it. -/
theorem cover1_A_4 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) (y : S1x512x512.Idx) :
    ∃ pc ∈ (kernelRun1_A c i arg3 harg3 arg4 harg4 arg5 harg5 arg6 harg6 arg7 harg7 arg8 harg8 hc0 x0 x1 x2 x3).1, y ∈ pc.1.set :=
  View.cover_of_tiledL (kernelRun1_A c i arg3 harg3 arg4 harg4 arg5 harg5 arg6 harg6 arg7 harg7 arg8 harg8 hc0 x0 x1 x2 x3).1 S1x512x512.size (by sl_kernel_rfl) y

/-- What case A leaves in output 4's staging buffer: its pieces read back over junk. -/
def out1_A_4 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) : Vec F S1x512x512 .bf16 :=
  VO1_4.read (Elt F) (VO1_4.writes (Elt F) VO1_4.junk (kernelRun1_A c i arg3 harg3 arg4 harg4 arg5 harg5 arg6 harg6 arg7 harg7 arg8 harg8 hc0 x0 x1 x2 x3).1)

/-- Case A's pieces for scratch `arg8`, which the kernel carries between points, cover it: 56 pieces of `S512x128` tiling it (Lib/Ring.lean `Piece.tiledL`). -/
theorem scover1_A_0 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) (y : S512x7168.Idx) :
    ∃ pc ∈ (kernelRun1_A c i arg3 harg3 arg4 harg4 arg5 harg5 arg6 harg6 arg7 harg7 arg8 harg8 hc0 x0 x1 x2 x3).2.1, y ∈ pc.1.set :=
  View.cover_of_tiledL (kernelRun1_A c i arg3 harg3 arg4 harg4 arg5 harg5 arg6 harg6 arg7 harg7 arg8 harg8 hc0 x0 x1 x2 x3).2.1 S512x128.size (by sl_kernel_rfl) y

/-- What case A leaves in scratch `arg8`: its pieces read back over junk. -/
def sout1_A_0 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) : Vec F S512x7168 .bf16 :=
  VS1_0.read (Elt F) (VS1_0.writes (Elt F) VS1_0.junk (kernelRun1_A c i arg3 harg3 arg4 harg4 arg5 harg5 arg6 harg6 arg7 harg7 arg8 harg8 hc0 x0 x1 x2 x3).2.1)

/-- Case B's pieces for output 4 tile its block (1 store of `S1x512x512`, checked by the kernel's evaluation: Lib/Ring.lean `Piece.tiledL`, linear in the pieces, through a loop's `@[irreducible]` trip theorem too), so they cover it. -/
theorem cover1_B_4 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : ¬cond1_0 i)
    (x0 : Vec F S56x8x512 .f32) (x1 : Vec F S1x512x7168 .fp8e4m3) (x2 : Vec F S7168x512 .bf16) (x3 : Vec F S1x512x512 .bf16) (xs0 : Vec F S512x7168 .bf16) (y : S1x512x512.Idx) :
    ∃ pc ∈ (kernelRun1_B c i arg3 harg3 arg4 harg4 arg5 harg5 arg6 harg6 arg7 harg7 arg8 harg8 hc0 x0 x1 x2 x3 xs0).1, y ∈ pc.1.set :=
  View.cover_of_tiledL (kernelRun1_B c i arg3 harg3 arg4 harg4 arg5 harg5 arg6 harg6 arg7 harg7 arg8 harg8 hc0 x0 x1 x2 x3 xs0).1 S1x512x512.size (by sl_kernel_rfl) y

/-- What case B leaves in output 4's staging buffer: its pieces read back over junk. -/
def out1_B_4 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : ¬cond1_0 i)
    (x0 : Vec F S56x8x512 .f32) (x1 : Vec F S1x512x7168 .fp8e4m3) (x2 : Vec F S7168x512 .bf16) (x3 : Vec F S1x512x512 .bf16) (xs0 : Vec F S512x7168 .bf16) : Vec F S1x512x512 .bf16 :=
  VO1_4.read (Elt F) (VO1_4.writes (Elt F) VO1_4.junk (kernelRun1_B c i arg3 harg3 arg4 harg4 arg5 harg5 arg6 harg6 arg7 harg7 arg8 harg8 hc0 x0 x1 x2 x3 xs0).1)

/-- Case B stores nothing into scratch `arg8`: it holds what the point before left. -/
def sout1_B_0 (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : ¬cond1_0 i)
    (x0 : Vec F S56x8x512 .f32) (x1 : Vec F S1x512x7168 .fp8e4m3) (x2 : Vec F S7168x512 .bf16) (x3 : Vec F S1x512x512 .bf16) (xs0 : Vec F S512x7168 .bf16) : Vec F S512x7168 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x512x512 .bf16 × Vec F S512x7168 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 10 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A: that case's contents. -/
theorem outsAt1_A (c : Dev nD) (t : Fin cfg1.N) (h0 : t.val % 10 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 10 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => withScratch c (owns (c : Thread nD τ) scM1_0 fullShare (outsAt1 V c n hn).2)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = withScratch c (owns (c : Thread nD τ) scM1_0 fullShare (outsAt1 V c n hn).2) := rfl

/-- Before a point that is not the first: the carried scratch at what the point before left. -/
theorem PhiS_pos (c : Dev nD) (n : ℕ) (h : n ≤ cfg1.N) (hz : n ≠ 0) :
    PhiS V c n h = withScratch c (owns (c : Thread nD τ) scM1_0 fullShare (outsAt1 V c (n - 1) (by omega)).2) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 3200000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4]
  rw [show (dat1 V c).Φ t.succ = PhiS V c (t.val + 1) t.isLt from rfl, PhiS_succ]
  have hN : t.val < 640 := lt_of_lt_of_eq t.isLt (show cfg1.N = 640 from N_1)
  by_cases h0 : t.val % 10 = 0
  · by_cases hz : t.val = 0
    · rw [PhiS_castSucc V c t, PhiS_zero V c _ _ hz, PhiA1_eq]
      rw [outsAt1_A V c t h0]
      unfold out1_A_4 sout1_A_0; (try dsimp only)
      iintro ⟨⟨⟨HR0, HR1, HR2, HR3, HS0, HR5⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR0 HR1 HR2 HR3 HS0 HR5 Hg]
      · isplitl [HR0 HR1 HR2 HR3 HS0 HR5]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (scover1_A_0 c _ _ _ _ _ _ _ _ _ _ _ _ _ _ _ _ _ _)
          iexact HR5
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · rw [PhiS_castSucc V c t, PhiS_pos V c _ _ hz]
      rw [outsAt1_A V c t h0]
      unfold out1_A_4 sout1_A_0; (try dsimp only)
      iintro ⟨⟨⟨HR0, HR1, HR2, HR3, HS0, HR5⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HR0 HR1 HR2 HR3 HS0 HR5 Hg]
      · isplitl [HR0 HR1 HR2 HR3 HS0 HR5]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (scover1_A_0 c _ _ _ _ _ _ _ _ _ _ _ _ _ _ _ _ _ _)
          iexact HR5
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · by_cases hz : t.val = 0
    · exfalso; have hN : t.val < 640 := lt_of_lt_of_eq t.isLt (show cfg1.N = 640 from N_1); omega
    · rw [PhiS_castSucc V c t, PhiS_pos V c _ _ hz]
      rw [outsAt1_B V c t h0]
      unfold out1_B_4 sout1_B_0; (try dsimp only)
      iintro ⟨⟨⟨HR0, HR1, HR2, HR3, HS0, HR5⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HR0 HR1 HR2 HR3 HS0 HR5 Hg]
      · isplitl [HR0 HR1 HR2 HR3 HS0 HR5]
        · isplitl [HR0]; · iexact HR0
          isplitl [HR1]; · iexact HR1
          isplitl [HR2]; · iexact HR2
          isplitl [HR3]; · iexact HR3
          isplitl [HS0]
          · iexact HS0
          iexact HR5
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HS0, HR5⟩, Hg⟩
  isplitl [HR0 HR1 HR2 HR3 HS0 HR5]
  · isplitl [HR0]; · iexact HR0
    isplitl [HR1]; · iexact HR1
    isplitl [HR2]; · iexact HR2
    isplitl [HR3]; · iexact HR3
    isplitl [HS0]; · iexists _; iexact HS0
    iexact HR5
  iexact Hg

/-- The same after the last point. -/
theorem hout (c : Dev nD) : (dat1 V c).Φ (Fin.last cfg1.N) ⊢ Pipeline.ΦA spec1 c :=
  Phi_out V c _ (by rw [Fin.val_last]; have : cfg1.N = 640 := N_1; omega)

end Cert.KernelIdeal.Hand

end
-- ==== Proof.KernelIdeal.Run.lean ====
/- The run of the whole program: its two regions one after the other, from the launch to the return. -/
module

public import proofs.«01_k».proof.Proof.KernelIdeal.Mm
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: no host stretch writes one and no region may change one (a region reads it
    through an input window or bypasses it) -/

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)
theorem W2_main_arg3 (c : Dev nD) : W2 m ρ c (Proc.devRef .tc main_arg3) = m ((c : Thread nD τ).loc main_arg3) :=
  W2_args m ρ c main_arg3 (by decide)
theorem W2_main_arg4 (c : Dev nD) : W2 m ρ c (Proc.devRef .tc main_arg4) = m ((c : Thread nD τ).loc main_arg4) :=
  W2_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W2`, the generator register at some state. -/
abbrev Tₙ (c : Dev nD) : sProp 𝕄 := iprop(StableHlo.held (c : Thread nD τ) (Pipeline.ucRefs τ sig) (W2 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin (V1 m ρ) c
    unfold Pipeline.ΦA at h
    rw [show (pdats m ρ 1 c).Φ 0 = (dat1 (V1 m ρ) c).Φ 0 from rfl]
    iintro ⟨Hp, -, Hr⟩
    iapply h
    isplitl [Hr]; · iexact Hr
    iexact Hp
  hout c := by
    have h := hout (V1 m ρ) c
    unfold Pipeline.ΦA at h
    rw [Pipeline.ownSems0_none, show (pdats m ρ 1 c).Φ (Fin.last _) = (dat1 (V1 m ρ) c).Φ (Fin.last _) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 2 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN at any `F`: at the compiled mesh, from any memory with zero counters, every weakly fair execution of @main on
    the TensorCores terminates, nothing faulting, and every final state has the argument arrays as launched, the result at
    what the second region leaves in it, and every semaphore counter of the machine at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v1) = W2 m ρ c (Proc.devRef .tc main_v1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       h c _ (mem_uc main_v1 (by decide))⟩), funext fun g => hz g (.inr (no_unscoped g.2))⟩)

/-- THE FRAME at any `F`: the run without the result's contents. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩) (run_main m ρ)

end Cert.KernelIdeal.Hand

end
-- ==== Proof.Value.Deq.lean ====
/- What the first call computes: the dequantized weights. At a grid point the body stores 224 blocks of 128 by 128, each the
   block of codes times its one scale, so the output block is one function of the two input blocks; over the grid the
   blocks fill the whole array of dequantized weights. Everything here holds at any floats. -/
module

public import proofs.«01_k».proof.Proof.KernelIdeal.Run
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- One dequantized weight: the code times its scale, in bf16. -/
def deqElt (w : Elt F .fp8e4m3) (s : Elt F .f32) : Elt F .bf16 :=
  FloatOps.mulf (FloatOps.extf .bf16 bitsLt_fp8e4m3_bf16 w) (FloatOps.truncf .bf16 bitsLt_bf16_f32 s)

/-- The block of dequantized weights of column block `j`: row `y 0` belongs to scale row `y 0 / 128`, column `y 1` of the block to
    scale column `4 * j + y 1 / 128`. -/
def deqBlk (j : Fin 10) (x0 : Vec F S56x40 .f32) (x1 : Vec F S7168x512 .fp8e4m3) : Vec F S7168x512 .bf16 := fun y =>
  have h0 : (y 0).val < 7168 := (y 0).isLt
  have h1 : (y 1).val < 512 := (y 1).isLt
  deqElt (x1 y) (x0 (ix2 ⟨(y 0).val / 128, by omega⟩ ⟨4 * j.val + (y 1).val / 128, by omega⟩))

/-- The column of the scale that the body reads at a grid point: `4 * j + k` as a word is that number. -/
theorem scale_col (i : grid0.Coords) (k : BitVec 32) (hk : k.toNat < 4) :
    (Scalar.indexCast (Scalar.addi (Scalar.muli (BitVec.ofNat 32 (i 0).val) 4#32) k) : Index).toNat = 4 * (i 0).val + k.toNat := by
  have h : (i 0).val < 10 := (i 0).isLt
  show ((BitVec.ofNat 32 (i 0).val * 4#32) + k).toNat = _
  rw [BitVec.toNat_add, BitVec.toNat_mul, BitVec.toNat_ofNat, show (4#32 : BitVec 32).toNat = 4 from rfl]
  omega

/-- One of the body's blocks: the codes of the 128 by 128 block at `![o0, o1]` times the scale read at `off`. -/
theorem deq_piece (i : grid0.Coords) (arg1 : Memref sig .tc .smem S56x40 .f32) (harg1 : arg1.IsWhole)
    (arg2 : Memref sig .tc .vmem S7168x512 .fp8e4m3) (harg2 : arg2.IsWhole)
    (x0 : Vec F S56x40 .f32) (x1 : Vec F S7168x512 .fp8e4m3) (o0 o1 : ℕ) (off : Fin 2 → ℕ) (k : BitVec 32)
    (inb : ∀ a, ![o0, o1] a + ![128, 128] a ≤ S7168x512.size a) (offinb : ∀ a, off a + S1x1.size a ≤ S56x40.size a)
    (hn : 0 < (Rect.unit (s := S56x40) off S1x1.size offinb).shape.numel)
    (hoff : off = ![o0 / 128, (Scalar.indexCast (Scalar.addi (Scalar.muli (BitVec.ofNat 32 (i 0).val) 4#32) k) : Index).toNat])
    (hk : k.toNat < 4 ∧ k.toNat = o1 / 128 ∧ o0 % 128 = 0 ∧ o1 % 128 = 0) (x : S128x128.Idx) :
    mulf (φ := .bf16) (extf .bf16 (s := S128x128) (View.readAt (Elt F) arg2.view (Rect.unit (s := S7168x512) ![o0, o1] ![128, 128] inb).toLoadRect (harg2.unread x1)) bitsLt_fp8e4m3_bf16)
      (truncf .bf16 (broadcast S128x128 (View.readAt (Elt F) arg1.view (Rect.unit (s := S56x40) off S1x1.size offinb).toLoadRect (harg1.unread x0) (Shape.Idx.first hn))) bitsLt_bf16_f32) x
      = deqBlk (i 0) x0 x1 ((Rect.unit (s := S7168x512) ![o0, o1] ![128, 128] inb).emb x) := by
  obtain ⟨hk4, hk1, ho0, ho1⟩ := hk
  subst hoff
  have hx0 : (x 0).val < 128 := (x 0).isLt
  have hx1 : (x 1).val < 128 := (x 1).isLt
  unfold deqBlk deqElt
  simp only [View.readAt_eq_ld, harg1.read_unread, harg2.read_unread]
  show FloatOps.mulf (FloatOps.extf .bf16 _ (x1 _)) (FloatOps.truncf .bf16 _ (x0 _)) = _
  congr 2
  apply congrArg x0
  funext a
  apply Fin.ext
  have e := scale_col i k hk4
  match a with
  | ⟨0, _⟩ =>
    show o0 / 128 + 1 * 0 = (o0 + 1 * (x 0).val) / 128
    omega
  | ⟨1, _⟩ =>
    show (Scalar.indexCast (Scalar.addi (Scalar.muli (BitVec.ofNat 32 (i 0).val) 4#32) k) : Index).toNat + 1 * 0 = 4 * (i 0).val + (o1 + 1 * (x 1).val) / 128
    rw [e]; omega

set_option maxHeartbeats 4000000 in
/-- Every block the body stores is that block of the dequantized weights. -/
theorem deq_pieces (c : Dev nD) (i : grid0.Coords) (arg1 : Memref sig .tc .smem S56x40 .f32) (harg1 : arg1.IsWhole) (arg2 : Memref sig .tc .vmem S7168x512 .fp8e4m3) (harg2 : arg2.IsWhole) (arg3 : Memref sig .tc .vmem S7168x512 .bf16) (harg3 : arg3.IsWhole)
    (x0 : Vec F S56x40 .f32) (x1 : Vec F S7168x512 .fp8e4m3) :
    ∀ p ∈ (kernelRun0_A c i arg1 harg1 arg2 harg2 arg3 harg3 x0 x1).1, ∀ x : p.1.shape.Idx, p.2 x = deqBlk (i 0) x0 x1 (p.1.emb x) := by
  unfold kernelRun0_A
  dsimp only
  repeat refine List.forall_mem_cons.2 ⟨deq_piece i arg1 harg1 arg2 harg2 x0 x1 _ _ _ _ _ _ _ rfl (by decide), ?_⟩
  exact fun _ h => absurd h List.not_mem_nil

/-- The whole array of dequantized weights: element `(k, n)` has scale `(k / 128, n / 128)`. -/
def deqAll (ws : Vec F S56x40 .f32) (w : Vec F S7168x5120 .fp8e4m3) : Vec F S7168x5120 .bf16 := fun y =>
  have h0 : (y 0).val < 7168 := (y 0).isLt
  have h1 : (y 1).val < 5120 := (y 1).isLt
  deqElt (w y) (ws (ix2 ⟨(y 0).val / 128, by omega⟩ ⟨(y 1).val / 128, by omega⟩))

/-- What the body leaves in the output block is the dequantized block of its inputs. -/
theorem outsAt0_eq (V : (c : Dev nD) → (b : Ref sig .tc) → Buf (Elt F) ((c : Thread nD τ).loc b)) (c : Dev nD) (t : Fin cfg0.N) :
    outsAt0 V c t = deqBlk (grid0.coords t 0) (iblk0 V c 0 t) (iblk0 V c 1 t) := by
  unfold outsAt0 out0_A_2
  funext y
  exact View.read_writes_apply_of_pieces _ _ _ _ (deq_pieces c (grid0.coords t) _ _ _ _ _ _ _ _) y (cover0_A_2 c _ _ _ _ _ _ _ _ _ y)

/-- The blocks of the first call: the whole scale, and column block `j` of the codes and of the result. -/
theorem index0_0 : ∀ t : Fin cfg0.N, win0_0.index t = ![0, 0] := (by decide +kernel : ∀ t : Fin grid0.N, _)
theorem index0_1 : ∀ t : Fin cfg0.N, win0_1.index t = ![0, (grid0.coords t 0).val] := (by decide +kernel : ∀ t : Fin grid0.N, _)
theorem index0_2 : ∀ t : Fin cfg0.N, win0_2.index t = ![0, (grid0.coords t 0).val] := (by decide +kernel : ∀ t : Fin grid0.N, _)

/-- After the first call its result array holds the dequantized weights. -/
theorem arr0 (V : (c : Dev nD) → (b : Ref sig .tc) → Buf (Elt F) ((c : Thread nD τ).loc b)) (c : Dev nD) :
    (dat0 V c).arrAt 2 cfg0.N = deqAll (V c main_arg3) (V c main_arg2) := by
  refine (dat0 V c).arrAt_eq_of_covers 2 _ (by decide +kernel) fun t hf y => ?_
  blk_simp
  rw [after0_2, outsAt0_eq]
  unfold deqBlk deqAll
  dsimp only
  unfold iblk0
  blk_simp
  congr 1
  blk_ext [index0_0 t, index0_1 t, index0_2 t]

end Cert.KernelIdeal.Hand
-- ==== Proof.Value.Mm.lean ====
/- What the second call computes at a grid point, from its blocks. At any floats. -/
module

public import proofs.«01_k».proof.Proof.Value.Deq

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- The scaled block of activations of batch row `b`: token `y 0`, feature `y 1`, whose scale row is `y 1 / 128`. -/
def actBlk (b : Fin 8) (x0 : Vec F S56x8x512 .f32) (x1 : Vec F S1x512x7168 .fp8e4m3) : Vec F S512x7168 .bf16 := fun y =>
  have h1 : (y 1).val < 7168 := (y 1).isLt
  deqElt (x1 (ix3 0 (y 0) (y 1))) (x0 (ix3 ⟨(y 1).val / 128, by omega⟩ b (y 0)))

/-- The row of the scale that the body reads at a grid point. -/
theorem scale_row (i : grid1.Coords) : k1_off1 i = ![0, (i 1).val, 0] := by
  have h : (i 1).val < 8 := (i 1).isLt
  unfold k1_off1
  dsimp only
  have e : (Scalar.indexCast (BitVec.ofNat 32 (i 1).val) : Index).toNat = (i 1).val := by
    show (BitVec.ofNat 32 (i 1).val).toNat = _
    rw [BitVec.toNat_ofNat]; omega
  rw [e]

/-- The value that the body stores at `x` for scale row `g`, from the scales `a3` and the codes `a4` it loads. -/
theorem act_val (a3 : Vec F S56x1x512 .f32) (a4 : Vec F S1x512x128 .fp8e4m3) (g : ℕ) (hsl : S512x56.Slices ![0, g] S512x1) (hg : g < 56) (x : S512x128.Idx) :
    shapeCast S512x128 (mulf (φ := .bf16) (extf .bf16 (s := S512x128) (shapeCast S512x128 a4 shapeCasts_S1x512x128_S512x128) bitsLt_fp8e4m3_bf16)
      (truncf .bf16 (broadcastTo S512x128 (shapeCast S512x1 (extractStridedSlice S512x1 ![0, g] (k1_pay3 a3) hsl) shapeCasts_S512x1_S512x1) broadcasts_S512x1_S512x128) bitsLt_bf16_f32)) shapeCasts_S512x128_S512x128 x
      = deqElt (a4 (ix3 0 (x 0) (x 1))) (a3 (ix3 ⟨g, hg⟩ 0 (x 0))) := by
  idx_vars x
  unfold deqElt k1_pay3
  pointwise

/-- One of the body's blocks of scaled activations: the codes of the 512 by 128 block at column `o` times column `g` of the scales. -/
theorem act_piece (i : grid1.Coords) (arg3 : Memref sig .tc .vmem S56x8x512 .f32) (harg3 : arg3.IsWhole)
    (arg4 : Memref sig .tc .vmem S1x512x7168 .fp8e4m3) (harg4 : arg4.IsWhole)
    (x0 : Vec F S56x8x512 .f32) (x1 : Vec F S1x512x7168 .fp8e4m3) (o g : ℕ)
    (inb : ∀ a, ![0, o] a + ![512, 128] a ≤ S512x7168.size a) (inb4 : ∀ a, ![0, 0, o] a + ![1, 512, 128] a ≤ S1x512x7168.size a)
    (inb3 : ∀ a, k1_off1 i a + S56x1x512.size a ≤ S56x8x512.size a)
    (hsl : S512x56.Slices ![0, g] S512x1)
    (hg : o = 128 * g) (x : S512x128.Idx) :
    shapeCast S512x128 (mulf (φ := .bf16) (extf .bf16 (s := S512x128) (shapeCast S512x128 (View.readAt (Elt F) arg4.view (Rect.unit (s := S1x512x7168) ![0, 0, o] ![1, 512, 128] inb4).toLoadRect (harg4.unread x1)) shapeCasts_S1x512x128_S512x128) bitsLt_fp8e4m3_bf16)
      (truncf .bf16 (broadcastTo S512x128 (shapeCast S512x1 (extractStridedSlice S512x1 ![0, g] (k1_pay3 (View.readAt (Elt F) arg3.view (Rect.unit (s := S56x8x512) (k1_off1 i) S56x1x512.size inb3).toLoadRect (harg3.unread x0))) hsl) shapeCasts_S512x1_S512x1) broadcasts_S512x1_S512x128) bitsLt_bf16_f32)) shapeCasts_S512x128_S512x128 x
      = actBlk (i 1) x0 x1 ((Rect.unit (s := S512x7168) ![0, o] ![512, 128] inb).emb x) := by
  subst hg
  have h1 : (x 1).val < 128 := (x 1).isLt
  have hg : g < 56 := by have := inb 1; have e : 128 * g + 128 ≤ 7168 := this; omega
  have hr := scale_row i
  refine (act_val _ _ g hsl hg x).trans ?_
  simp only [View.readAt_eq_ld, harg3.read_unread, harg4.read_unread]
  unfold actBlk
  show deqElt (x1 _) (x0 _) = deqElt (x1 _) (x0 _)
  congr 2
  · funext a
    apply Fin.ext
    match a with
    | ⟨0, _⟩ => rfl
    | ⟨1, _⟩ => rfl
    | ⟨2, _⟩ => rfl
  · funext a
    apply Fin.ext
    match a with
    | ⟨0, _⟩ =>
      show k1_off1 i 0 + 1 * g = (128 * g + 1 * (x 1).val) / 128
      rw [hr]
      show 0 + 1 * g = _
      omega
    | ⟨1, _⟩ =>
      show k1_off1 i 1 + 1 * 0 = (i 1).val
      rw [hr]
      rfl
    | ⟨2, _⟩ =>
      show k1_off1 i 2 + 1 * (x 0).val = 0 + 1 * (x 0).val
      rw [hr]
      rfl

set_option maxHeartbeats 4000000 in
/-- Every block that the body stores in the scratch is that block of the scaled activations. -/
theorem act_pieces (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) :
    ∀ p ∈ (kernelRun1_A c i arg3 harg3 arg4 harg4 arg5 harg5 arg6 harg6 arg7 harg7 arg8 harg8 hc0 x0 x1 x2 x3).2.1, ∀ x : p.1.shape.Idx, p.2 x = actBlk (i 1) x0 x1 (p.1.emb x) := by
  show ∀ p ∈ kernelRun1_A.sl.HS0_56 c i arg3 harg3 arg4 harg4 hc0 x0 x1, _
  unfold kernelRun1_A.sl.HS0_56
  dsimp only
  repeat refine List.forall_mem_cons.2 ⟨act_piece i arg3 harg3 arg4 harg4 x0 x1 _ _ (by decide) (by decide) _ (by decide) rfl, ?_⟩
  exact fun _ h => absurd h List.not_mem_nil

/-- An index of a rectangle that is the whole shape is itself. -/
theorem emb_whole {s : Shape} (off : Fin s.rank → ℕ) (inb : ∀ a, off a + s.size a ≤ s.size a) (h : ∀ a, off a = 0) (y : s.Idx) :
    (Rect.unit off s.size inb).emb y = y := by
  funext a
  apply Fin.ext
  show off a + 1 * (y a).val = (y a).val
  rw [h a]; omega

/-- A load of a whole buffer reads what the buffer holds. -/
theorem load_whole {sp : Space} {s : Shape} {e : EltTy} {arg : Memref sig .tc sp s e} (harg : arg.IsWhole) (off : Fin s.rank → ℕ)
    (inb : ∀ a, off a + s.size a ≤ s.size a) (h : ∀ a, off a = 0) (x : Vec F s e) :
    View.readAt (Elt F) arg.view (Rect.unit off s.size inb).toLoadRect (harg.unread x) = x := by
  simp only [View.readAt_eq_ld, harg.read_unread]
  funext y
  exact congrArg x (emb_whole off inb h y)

/-- Read back whole, the scratch holds the scaled activations. -/
theorem scr_val (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) :
    kernelRun1_A.sl.v3 c i arg3 harg3 arg4 harg4 arg8 hc0 x0 x1 = actBlk (i 1) x0 x1 := by
  unfold kernelRun1_A.sl.v3 View.readCov
  funext y
  refine (View.read_writes_apply_of_pieces arg8.view _ (actBlk (i 1) x0 x1) _ (act_pieces c i arg3 harg3 arg4 harg4 arg5 harg5 arg6 harg6 arg7 harg7 arg8 harg8 hc0 x0 x1 x2 x3) _ (scover1_A_0 c i arg3 harg3 arg4 harg4 arg5 harg5 arg6 harg6 arg7 harg7 arg8 harg8 hc0 x0 x1 x2 x3 _)).trans ?_
  exact congrArg (actBlk (i 1) x0 x1) (emb_whole (s := S512x7168) _ _ (by decide) y)

/-- What the body leaves in the scratch where it fills it. -/
theorem sout1_A_eq (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) :
    sout1_A_0 c i arg3 harg3 arg4 harg4 arg5 harg5 arg6 harg6 arg7 harg7 arg8 harg8 hc0 x0 x1 x2 x3 = actBlk (i 1) x0 x1 := by
  unfold sout1_A_0
  funext y
  exact View.read_writes_apply_of_pieces _ _ (actBlk (i 1) x0 x1) _ (act_pieces c i arg3 harg3 arg4 harg4 arg5 harg5 arg6 harg6 arg7 harg7 arg8 harg8 hc0 x0 x1 x2 x3) y (scover1_A_0 c i arg3 harg3 arg4 harg4 arg5 harg5 arg6 harg6 arg7 harg7 arg8 harg8 hc0 x0 x1 x2 x3 y)

/-- What the body leaves in the output block where it fills the scratch. -/
theorem out1_A_eq (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : cond1_0 i)
    (x0 : Vec F S56x8x512 .f32) (x1 : Vec F S1x512x7168 .fp8e4m3) (x2 : Vec F S7168x512 .bf16) (x3 : Vec F S1x512x512 .bf16) :
    out1_A_4 c i arg3 harg3 arg4 harg4 arg5 harg5 arg6 harg6 arg7 harg7 arg8 harg8 hc0 x0 x1 x2 x3 = k1_pay2 (actBlk (i 1) x0 x1) x2 x3 := by
  unfold out1_A_4
  funext y
  refine View.read_writes_apply_of_pieces _ _ (k1_pay2 (actBlk (i 1) x0 x1) x2 x3) _ ?_ y (cover1_A_4 c i arg3 harg3 arg4 harg4 arg5 harg5 arg6 harg6 arg7 harg7 arg8 harg8 hc0 x0 x1 x2 x3 y)
  unfold kernelRun1_A
  dsimp only
  refine List.forall_mem_cons.2 ⟨fun x => ?_, fun _ h => absurd h List.not_mem_nil⟩
  refine (congrFun (congr (congr (congrArg k1_pay2 (scr_val c i arg3 harg3 arg4 harg4 arg5 harg5 arg6 harg6 arg7 harg7 arg8 harg8 hc0 x0 x1 x2 x3)) (load_whole harg5 _ _ (by decide) x2)) (load_whole harg6 _ _ (by decide) x3)) x).trans ?_
  exact congrArg (k1_pay2 (actBlk (i 1) x0 x1) x2 x3) (emb_whole (s := S1x512x512) _ (by decide) (by decide) x).symm

/-- What the body leaves in the output block where it finds the scratch filled. -/
theorem out1_B_eq (c : Dev nD) (i : grid1.Coords) (arg3 : Memref sig .tc .vmem S56x8x512 .f32) (harg3 : arg3.IsWhole) (arg4 : Memref sig .tc .vmem S1x512x7168 .fp8e4m3) (harg4 : arg4.IsWhole) (arg5 : Memref sig .tc .vmem S7168x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S512x7168 .bf16) (harg8 : arg8.IsWhole) (hc0 : ¬ cond1_0 i)
    (x0 : Vec F S56x8x512 .f32) (x1 : Vec F S1x512x7168 .fp8e4m3) (x2 : Vec F S7168x512 .bf16) (x3 : Vec F S1x512x512 .bf16) (xs0 : Vec F S512x7168 .bf16) :
    out1_B_4 c i arg3 harg3 arg4 harg4 arg5 harg5 arg6 harg6 arg7 harg7 arg8 harg8 hc0 x0 x1 x2 x3 xs0 = k1_pay2 xs0 x2 x3 := by
  unfold out1_B_4
  funext y
  refine View.read_writes_apply_of_pieces _ _ (k1_pay2 xs0 x2 x3) _ ?_ y (cover1_B_4 c i arg3 harg3 arg4 harg4 arg5 harg5 arg6 harg6 arg7 harg7 arg8 harg8 hc0 x0 x1 x2 x3 xs0 y)
  unfold kernelRun1_B
  dsimp only
  refine List.forall_mem_cons.2 ⟨fun x => ?_, fun _ h => absurd h List.not_mem_nil⟩
  refine (congrFun (congr (congr (congrArg k1_pay2 (load_whole harg8 _ _ (by decide) xs0)) (load_whole harg5 _ _ (by decide) x2)) (load_whole harg6 _ _ (by decide) x3)) x).trans ?_
  exact congrArg (k1_pay2 xs0 x2 x3) (emb_whole (s := S1x512x512) _ (by decide) (by decide) x).symm

end Cert.KernelIdeal.Hand
-- ==== Proof.Value.Arr.lean ====
/- What the second call leaves in its result array, from the arrays it is entered with. At any floats. -/
module

public import proofs.«01_k».proof.Proof.Value.Mm
public import Idealize.ShloMosaic.Lib.Pipeline.Covers

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

variable (V : (c : Dev nD) → (b : Ref sig .tc) → Buf (Elt F) ((c : Thread nD τ).loc b))

/-- The blocks of the second call, by the grid point's three coordinates. -/
theorem index1_0 : ∀ t : Fin cfg1.N, win1_0.index t = ![0, 0, (grid1.coords t 0).val] := (by decide +kernel : ∀ t : Fin grid1.N, _)
theorem index1_1 : ∀ t : Fin cfg1.N, win1_1.index t = ![(grid1.coords t 1).val, (grid1.coords t 0).val, 0] := (by decide +kernel : ∀ t : Fin grid1.N, _)
theorem index1_2 : ∀ t : Fin cfg1.N, win1_2.index t = ![0, (grid1.coords t 2).val] := (by decide +kernel : ∀ t : Fin grid1.N, _)
theorem index1_3 : ∀ t : Fin cfg1.N, win1_3.index t = ![(grid1.coords t 1).val, (grid1.coords t 0).val, (grid1.coords t 2).val] := (by decide +kernel : ∀ t : Fin grid1.N, _)
theorem index1_4 : ∀ t : Fin cfg1.N, win1_4.index t = ![(grid1.coords t 1).val, (grid1.coords t 0).val, (grid1.coords t 2).val] := (by decide +kernel : ∀ t : Fin grid1.N, _)

/-- The scaled activations of token block `i` of batch row `b`, from the arrays. -/
def actAt (a0 : Vec F S8x4096x7168 .fp8e4m3) (a1 : Vec F S56x8x4096 .f32) (i b : Fin 8) : Vec F S512x7168 .bf16 := fun y =>
  have h0 : (y 0).val < 512 := (y 0).isLt
  have h1 : (y 1).val < 7168 := (y 1).isLt
  deqElt (a0 (ix3 b ⟨512 * i.val + (y 0).val, by omega⟩ (y 1))) (a1 (ix3 ⟨(y 1).val / 128, by omega⟩ b ⟨512 * i.val + (y 0).val, by omega⟩))

/-- The scaled activations of a grid point's blocks are those of its two outer coordinates. -/
theorem actBlk_at (c : Dev nD) (t : Fin cfg1.N) :
    actBlk (grid1.coords t 1) (iblk1 V c 0 t) (iblk1 V c 1 t) = actAt (V c main_arg0) (V c main_arg1) (grid1.coords t 0) (grid1.coords t 1) := by
  funext y
  unfold actBlk actAt
  dsimp only
  unfold iblk1
  blk_simp
  congr 2
  · blk_ext [index1_1 t]
  · blk_ext [index1_0 t]

/-- Two points of one run of ten have the same two outer coordinates. -/
theorem outer_eq (t u : Fin cfg1.N) (h : t.val / 10 = u.val / 10) : grid1.coords t 0 = grid1.coords u 0 ∧ grid1.coords t 1 = grid1.coords u 1 := by
  have e (t : Fin cfg1.N) : (grid1.coords t 0).val = t.val / 80 % 8 := Pipeline.Grid.coords_val t 0 (by decide) rfl
  have e' (t : Fin cfg1.N) : (grid1.coords t 1).val = t.val / 10 % 8 := Pipeline.Grid.coords_val t 1 (by decide) rfl
  constructor
  · apply Fin.ext; rw [e, e]; omega
  · apply Fin.ext; rw [e', e']; omega

/-- After every point the scratch holds the scaled activations of the point's two outer coordinates. -/
theorem scr_at (c : Dev nD) : ∀ (n : ℕ) (hn : n < cfg1.N),
    (outsAt1 V c n hn).2 = actAt (V c main_arg0) (V c main_arg1) (grid1.coords ⟨n, hn⟩ 0) (grid1.coords ⟨n, hn⟩ 1) := by
  intro n
  induction n with
  | zero =>
    intro hn
    rw [outsAt1_A V c ⟨0, hn⟩ rfl]
    dsimp only
    rw [sout1_A_eq, actBlk_at]
  | succ n ih =>
    intro hn
    by_cases h : (n + 1) % 10 = 0
    · rw [outsAt1_A V c ⟨n + 1, hn⟩ h]
      dsimp only
      rw [sout1_A_eq, actBlk_at]
    · rw [outsAt1_B V c ⟨n + 1, hn⟩ h]
      dsimp only
      unfold sout1_B_0
      have e := outer_eq ⟨n + 1, hn⟩ ⟨n, Nat.lt_of_succ_lt hn⟩ (by show (n + 1) / 10 = n / 10; omega)
      rw [e.1, e.2]
      exact ih _

/-- After every point the output block is the product of the scaled activations and the weights' block, plus the residual's. -/
theorem out_at (c : Dev nD) (t : Fin cfg1.N) :
    (outsAt1 V c t.val t.isLt).1 = k1_pay2 (actAt (V c main_arg0) (V c main_arg1) (grid1.coords t 0) (grid1.coords t 1)) (iblk1 V c 2 t) (iblk1 V c 3 t) := by
  by_cases h : t.val % 10 = 0
  · rw [outsAt1_A V c t h, ← actBlk_at V c t]
    dsimp only
    rw [out1_A_eq]
  · rw [outsAt1_B V c t h]
    dsimp only
    rw [out1_B_eq]
    have e := outer_eq t ⟨t.val - 1, Nat.lt_of_le_of_lt (Nat.sub_le _ _) t.isLt⟩ (by show t.val / 10 = (t.val - 1) / 10; omega)
    rw [e.1, e.2]
    exact congrArg (k1_pay2 · _ _) (scr_at V c _ _)

/-- The weights' block of columns `j`, from the array. -/
def wAt (w : Vec F S7168x5120 .bf16) (j : Fin 10) : Vec F S7168x512 .bf16 := fun y =>
  have h1 : (y 1).val < 512 := (y 1).isLt
  w (ix2 (y 0) ⟨512 * j.val + (y 1).val, by omega⟩)

/-- The residual's block of batch row `b`, token block `i`, columns `j`, from the array. -/
def rAt (r : Vec F S8x4096x5120 .bf16) (i b : Fin 8) (j : Fin 10) : Vec F S1x512x512 .bf16 := fun y =>
  have h1 : (y 1).val < 512 := (y 1).isLt
  have h2 : (y 2).val < 512 := (y 2).isLt
  r (ix3 b ⟨512 * i.val + (y 1).val, by omega⟩ ⟨512 * j.val + (y 2).val, by omega⟩)

/-- The whole result from the arrays: each element is the one of its block. -/
def outAll (a0 : Vec F S8x4096x7168 .fp8e4m3) (a1 : Vec F S56x8x4096 .f32) (w : Vec F S7168x5120 .bf16) (r : Vec F S8x4096x5120 .bf16) :
    Vec F S8x4096x5120 .bf16 := fun y =>
  have h1 : (y 1).val < 4096 := (y 1).isLt
  have h2 : (y 2).val < 5120 := (y 2).isLt
  k1_pay2 (actAt a0 a1 ⟨(y 1).val / 512, by omega⟩ (y 0)) (wAt w ⟨(y 2).val / 512, by omega⟩)
    (rAt r ⟨(y 1).val / 512, by omega⟩ (y 0) ⟨(y 2).val / 512, by omega⟩)
    (ix3 0 ⟨(y 1).val % 512, by omega⟩ ⟨(y 2).val % 512, by omega⟩)

/-- An element of the result, by its block and its place there. -/
theorem outAll_at (a0 : Vec F S8x4096x7168 .fp8e4m3) (a1 : Vec F S56x8x4096 .f32) (w : Vec F S7168x5120 .bf16) (r : Vec F S8x4096x5120 .bf16)
    (i b : Fin 8) (j : Fin 10) (y : S1x512x512.Idx) (z : S8x4096x5120.Idx)
    (h0 : (z 0).val = b.val) (h1 : (z 1).val = 512 * i.val + (y 1).val) (h2 : (z 2).val = 512 * j.val + (y 2).val) :
    k1_pay2 (actAt a0 a1 i b) (wAt w j) (rAt r i b j) y = outAll a0 a1 w r z := by
  have hy0 : (y 0).val < 1 := (y 0).isLt
  have hy1 : (y 1).val < 512 := (y 1).isLt
  have hy2 : (y 2).val < 512 := (y 2).isLt
  have hi : (⟨(z 1).val / 512, by have := (z 1).isLt; have e : (z 1).val < 4096 := this; omega⟩ : Fin 8) = i := Fin.ext (by show (z 1).val / 512 = _; omega)
  have hb : z 0 = b := Fin.ext h0
  have hj : (⟨(z 2).val / 512, by have := (z 2).isLt; have e : (z 2).val < 5120 := this; omega⟩ : Fin 10) = j := Fin.ext (by show (z 2).val / 512 = _; omega)
  unfold outAll
  dsimp only
  rw [hi, hb, hj]
  refine congrArg _ (funext fun a => Fin.ext ?_)
  match a with
  | ⟨0, _⟩ => show (y 0).val = 0; omega
  | ⟨1, _⟩ => show (y 1).val = (z 1).val % 512; omega
  | ⟨2, _⟩ => show (y 2).val = (z 2).val % 512; omega

/-- The blocks of the weights and of the residual at a grid point. -/
theorem iblk1_2_at (c : Dev nD) (t : Fin cfg1.N) : iblk1 V c 2 t = wAt (V c main_v0) (grid1.coords t 2) := by
  funext y
  unfold wAt iblk1
  dsimp only
  blk_simp
  congr 1
  blk_ext [index1_2 t]
theorem iblk1_3_at (c : Dev nD) (t : Fin cfg1.N) : iblk1 V c 3 t = rAt (V c main_arg4) (grid1.coords t 0) (grid1.coords t 1) (grid1.coords t 2) := by
  funext y
  unfold rAt iblk1
  dsimp only
  blk_simp
  congr 1
  blk_ext [index1_3 t]

/-- After the second call its result array holds `outAll` of the arrays it was entered with. -/
theorem arr1 (c : Dev nD) :
    (dat1 V c).arrAt 4 cfg1.N = outAll (V c main_arg0) (V c main_arg1) (V c main_v0) (V c main_arg4) := by
  refine (dat1 V c).arrAt_eq_of_covers 4 _ (by decide +kernel) fun t hf y => ?_
  blk_simp
  rw [after1_4, out_at, iblk1_2_at, iblk1_3_at]
  have hb : (y 0).val < 1 := (y 0).isLt
  refine outAll_at _ _ _ _ _ _ _ y _ ?_ ?_ ?_
  · blk_simp [index1_4 t]
  · blk_simp [index1_4 t]; omega
  · blk_simp [index1_4 t]; omega

end Cert.KernelIdeal.Hand
-- ==== Proof.Value.Ref.lean ====
/- The result over the extended reals: each element of the kernel's array is the reference's. -/
module

public import proofs.«01_k».proof.Proof.Value.Arr
public import proofs.«01_k».proof.Proof.Gen.ReferenceIdeal.Value

@[expose] public section

set_option maxRecDepth 16384

noncomputable section

namespace Cert.KernelIdeal.Hand

open Cert.KernelIdeal.Gen
open Idealize.ShloMosaic Idealize.ShloMosaic.TcCoe Idealize.ShloMosaic.Tactic

/-- Over the extended reals a scaled code is the product: the casts are the identity. -/
theorem deqElt_ideal (w s : EReal) : (deqElt (F := Ideal) w s : EReal) = w * s := rfl

/-- An element of an output block over the extended reals: a sum over the features, plus the residual. -/
theorem pay_val (v3 : Vec Ideal S512x7168 .bf16) (v4 : Vec Ideal S7168x512 .bf16) (v7 : Vec Ideal S1x512x512 .bf16) (p q : Fin 512) :
    k1_pay2 v3 v4 v7 (ix3 0 p q) = ((∑ x : Fin 7168, (v3 (ix2 p x) : EReal) * (v4 (ix2 x q) : EReal)) + (v7 (ix3 0 p q) : EReal) : EReal) := by
  unfold k1_pay2
  pointwise

/-- An element of the reference's result. -/
theorem ref_val (v0 : Vec Ideal S56x8x4096 .f32) (v3 : Vec Ideal S8x4096x7168 .fp8e4m3) (v10 : Vec Ideal S7168x5120 .fp8e4m3)
    (v13 : Vec Ideal S56x40 .f32) (v20 : Vec Ideal S8x4096x5120 .bf16) (b : Fin 8) (t : Fin 4096) (n : Fin 5120) :
    Cert.ReferenceIdeal.Gen.k0_pay1 v0 v3 v10 v13 v20 (ix3 b t n)
      = ((∑ x : Fin 7168, ((v3 (ix3 b t x) : EReal) * (v0 (ix3 ⟨x.val / 128, by omega⟩ b t) : EReal))
          * ((v10 (ix2 x n) : EReal) * (v13 (ix2 ⟨x.val / 128, by omega⟩ ⟨n.val / 128, by omega⟩) : EReal))) + (v20 (ix3 b t n) : EReal) : EReal) := by
  unfold Cert.ReferenceIdeal.Gen.k0_pay1
  pointwise

/-- The kernel's result is the reference's, element by element. -/
theorem out_eq_ref (a0 : Vec Ideal S8x4096x7168 .fp8e4m3) (a1 : Vec Ideal S56x8x4096 .f32) (a2 : Vec Ideal S7168x5120 .fp8e4m3)
    (a3 : Vec Ideal S56x40 .f32) (a4 : Vec Ideal S8x4096x5120 .bf16) :
    outAll a0 a1 (deqAll a3 a2) a4 = Cert.ReferenceIdeal.Gen.k0_pay1 a1 a0 a2 a3 a4 := by
  funext y
  idx_vars y
  rw [ref_val]
  unfold outAll
  dsimp only
  rw [pay_val]
  unfold actAt wAt rAt deqAll
  simp only [deqElt_ideal]
  have e1 : (⟨512 * (y1.val / 512) + y1.val % 512, by omega⟩ : Fin 4096) = y1 := Fin.ext (Nat.div_add_mod _ _)
  have e2 : (⟨512 * (y2.val / 512) + y2.val % 512, by omega⟩ : Fin 5120) = y2 := Fin.ext (Nat.div_add_mod _ _)
  have e3 : (⟨(512 * (y2.val / 512) + y2.val % 512) / 128, by omega⟩ : Fin 40) = ⟨y2.val / 128, by omega⟩ := Fin.ext (by show _ / 128 = _ / 128; rw [Nat.div_add_mod])
  refine congrArg₂ (fun a b : EReal => a + b) (Finset.sum_congr rfl fun x _ => ?_) ?_
  · show (a0 (ix3 y0 ⟨512 * (y1.val / 512) + y1.val % 512, by omega⟩ x) : EReal) * (a1 (ix3 ⟨x.val / 128, by omega⟩ y0 ⟨512 * (y1.val / 512) + y1.val % 512, by omega⟩) : EReal)
      * ((a2 (ix2 x ⟨512 * (y2.val / 512) + y2.val % 512, by omega⟩) : EReal) * (a3 (ix2 ⟨x.val / 128, by omega⟩ ⟨(512 * (y2.val / 512) + y2.val % 512) / 128, by omega⟩) : EReal)) = _
    rw [e1, e2, e3]
  · show (a4 (ix3 y0 ⟨512 * (y1.val / 512) + y1.val % 512, by omega⟩ ⟨512 * (y2.val / 512) + y2.val % 512, by omega⟩) : EReal) = _
    rw [e1, e2]

variable (m : (ℓ : Loc nD τ sig) → Buf (Elt Ideal) ℓ) (ρ : Dev nD → PrngReg)

/-- What the whole program leaves in its result, from its arguments. -/
theorem result (c : Dev nD) :
    W2 m ρ c (Proc.devRef .tc main_v1)
      = Cert.ReferenceIdeal.Value.G5 (m ((c : Thread nD τ).loc main_arg0)) (m ((c : Thread nD τ).loc main_arg1))
          (m ((c : Thread nD τ).loc main_arg2)) (m ((c : Thread nD τ).loc main_arg3)) (m ((c : Thread nD τ).loc main_arg4)) := by
  have e0 : V1 m ρ c main_arg0 = m ((c : Thread nD τ).loc main_arg0) := W1_args m ρ c main_arg0 (by decide)
  have e1 : V1 m ρ c main_arg1 = m ((c : Thread nD τ).loc main_arg1) := W1_args m ρ c main_arg1 (by decide)
  have e4 : V1 m ρ c main_arg4 = m ((c : Thread nD τ).loc main_arg4) := W1_args m ρ c main_arg4 (by decide)
  have ev : V1 m ρ c main_v0 = deqAll (m ((c : Thread nD τ).loc main_arg3)) (m ((c : Thread nD τ).loc main_arg2)) :=
    (W1_arr m ρ c 2).trans (arr0 (V0 m ρ) c)
  refine (W2_arr m ρ c 4).trans ((arr1 (V1 m ρ) c).trans ?_)
  rw [e0, e1, e4, ev]
  exact out_eq_ref _ _ _ _ _

end Cert.KernelIdeal.Hand
-- ==== Proof.lean ====
module

public import proofs.«01_k».proof.Defs
public import proofs.«01_k».proof.Proof.Kernel.Run
public import proofs.«01_k».proof.Proof.KernelIdeal.Run
public import proofs.«01_k».proof.Proof.Gen.ReferenceIdeal.Value
public import proofs.«01_k».proof.Proof.Value.Ref

@[expose] public section

noncomputable section

namespace Cert.Proof

open Idealize.ShloMosaic Idealize.ShloMosaic.TcCoe Idealize.SL.Sem

/-- From memories that agree on the arguments the two programs end with equal results. -/
theorem algebraic : algebraic_KernelIdeal_ReferenceIdeal (hKernelIdeal := Cert.KernelIdeal.Gen.facts) (hReferenceIdeal := Cert.ReferenceIdeal.Gen.facts) := by
  intro m g m' g' _ hm
  refine ⟨fun c => Cert.KernelIdeal.Hand.W2 m g c (Proc.devRef .tc Cert.KernelIdeal.main_v1), ?_, ?_⟩
  · refine (θ_run _ _ _).mono (fun r h c => ?_) (Cert.KernelIdeal.Hand.run_main m g)
    obtain ⟨h0, h1, h2, h3, h4, hv⟩ := h.1 c
    exact ⟨hv, h0, h1, h2, h3, h4⟩
  · refine (θ_run _ _ _).mono (fun r h c => ?_) (Cert.ReferenceIdeal.Value.run m' g')
    obtain ⟨hv, hr⟩ := h c
    obtain ⟨e0, e1, e2, e3, e4⟩ := hm c
    refine ⟨hv.trans ?_, hr⟩
    rw [e0, e1, e2, e3, e4]
    exact (Cert.KernelIdeal.Hand.result m g c).symm

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
